-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "exp2_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)) (v5 : (c : Dev Cert.KernelIdeal.nD) → Buf (Elt Ideal) ((c.tc : Thread Cert.KernelIdeal.nD Cert.KernelIdeal.τ).loc Cert.KernelIdeal.main_v26_5)) (v6 : (c : Dev Cert.KernelIdeal.nD) → Buf (Elt Ideal) ((c.tc : Thread Cert.KernelIdeal.nD Cert.KernelIdeal.τ).loc Cert.KernelIdeal.main_v26_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_v26_5) = v5 c
          ∧ r.2.mem ((c.tc : Thread Cert.KernelIdeal.nD Cert.KernelIdeal.τ).loc Cert.KernelIdeal.main_v26_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_v154) = v5 c
          ∧ r.2.mem ((c.tc : Thread Cert.ReferenceIdeal.nD Cert.ReferenceIdeal.τ).loc Cert.ReferenceIdeal.main_v156) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4x4096 : Shape := ⟨3, ![8, 4, 4096]⟩
abbrev S8x4x2x128 : Shape := ⟨4, ![8, 4, 2, 128]⟩
abbrev S8x16256x2x64 : Shape := ⟨4, ![8, 16256, 2, 64]⟩
abbrev S8x508x2x128 : Shape := ⟨4, ![8, 508, 2, 128]⟩
abbrev S8x16256x2 : Shape := ⟨3, ![8, 16256, 2]⟩
abbrev S8x128x2x128 : Shape := ⟨4, ![8, 128, 2, 128]⟩
abbrev S8x4x2x16x128 : Shape := ⟨5, ![8, 4, 2, 16, 128]⟩
abbrev S8x2x16x4x128 : Shape := ⟨5, ![8, 2, 16, 4, 128]⟩
abbrev S8x2x64x128 : Shape := ⟨4, ![8, 2, 64, 128]⟩
abbrev S8x2x64x16256 : Shape := ⟨4, ![8, 2, 64, 16256]⟩
abbrev S8x2x16256 : Shape := ⟨3, ![8, 2, 16256]⟩
abbrev S8x2x128x128 : Shape := ⟨4, ![8, 2, 128, 128]⟩
abbrev S8x2x4x128 : Shape := ⟨4, ![8, 2, 4, 128]⟩
abbrev S128 : Shape := ⟨1, ![128]⟩
abbrev S128x1 : Shape := ⟨2, ![128, 1]⟩
abbrev S_ : Shape := ⟨0, ![]⟩
abbrev S64 : Shape := ⟨1, ![64]⟩
abbrev S1x64 : Shape := ⟨2, ![1, 64]⟩
abbrev S128x64 : Shape := ⟨2, ![128, 64]⟩
abbrev S8x2x4x64 : Shape := ⟨4, ![8, 2, 4, 64]⟩
abbrev S8x2x1x128 : Shape := ⟨4, ![8, 2, 1, 128]⟩
abbrev S1x1x64x128 : Shape := ⟨4, ![1, 1, 64, 128]⟩
abbrev S1x1x64x16256 : Shape := ⟨4, ![1, 1, 64, 16256]⟩
abbrev S1x508x2x128 : Shape := ⟨4, ![1, 508, 2, 128]⟩
abbrev S1x2x16256 : Shape := ⟨3, ![1, 2, 16256]⟩
abbrev S1x1x128x128 : Shape := ⟨4, ![1, 1, 128, 128]⟩
abbrev S1x1x4x128 : Shape := ⟨4, ![1, 1, 4, 128]⟩
abbrev S1x1x4x64 : Shape := ⟨4, ![1, 1, 4, 64]⟩
abbrev S1x1x1x128 : Shape := ⟨4, ![1, 1, 1, 128]⟩
abbrev S2x64x16256 : Shape := ⟨3, ![2, 64, 16256]⟩
abbrev S2x64x256 : Shape := ⟨3, ![2, 64, 256]⟩
abbrev S2x64x128 : Shape := ⟨3, ![2, 64, 128]⟩
abbrev S64x16256 : Shape := ⟨2, ![64, 16256]⟩
abbrev S1x64x16256 : Shape := ⟨3, ![1, 64, 16256]⟩
abbrev S64x256 : Shape := ⟨2, ![64, 256]⟩
abbrev S1x64x256 : Shape := ⟨3, ![1, 64, 256]⟩
abbrev S64x128 : Shape := ⟨2, ![64, 128]⟩
abbrev S1x64x128 : Shape := ⟨3, ![1, 64, 128]⟩
abbrev S1x16x1x128 : Shape := ⟨4, ![1, 16, 1, 128]⟩
abbrev S16x128 : Shape := ⟨2, ![16, 128]⟩
abbrev S16x1x128 : Shape := ⟨3, ![16, 1, 128]⟩
abbrev S16x32x128 : Shape := ⟨3, ![16, 32, 128]⟩
abbrev S512x128 : Shape := ⟨2, ![512, 128]⟩
abbrev S128x512 : Shape := ⟨2, ![128, 512]⟩
abbrev S1x1x64x512 : Shape := ⟨4, ![1, 1, 64, 512]⟩
abbrev S64x512 : Shape := ⟨2, ![64, 512]⟩
abbrev S64x1x512 : Shape := ⟨3, ![64, 1, 512]⟩
abbrev S64x2x512 : Shape := ⟨3, ![64, 2, 512]⟩
abbrev S1x64x512 : Shape := ⟨3, ![1, 64, 512]⟩
abbrev S1x12x1x128 : Shape := ⟨4, ![1, 12, 1, 128]⟩
abbrev S12x128 : Shape := ⟨2, ![12, 128]⟩
abbrev S12x1x128 : Shape := ⟨3, ![12, 1, 128]⟩
abbrev S12x32x128 : Shape := ⟨3, ![12, 32, 128]⟩
abbrev S384x128 : Shape := ⟨2, ![384, 128]⟩
abbrev S128x384 : Shape := ⟨2, ![128, 384]⟩
abbrev S1x1x64x384 : Shape := ⟨4, ![1, 1, 64, 384]⟩
abbrev S64x384 : Shape := ⟨2, ![64, 384]⟩
abbrev S64x1x384 : Shape := ⟨3, ![64, 1, 384]⟩
abbrev S64x2x384 : Shape := ⟨3, ![64, 2, 384]⟩
abbrev S1x64x384 : Shape := ⟨3, ![1, 64, 384]⟩
abbrev S4x128 : Shape := ⟨2, ![4, 128]⟩
abbrev S1x128 : Shape := ⟨2, ![1, 128]⟩
abbrev S4x64 : Shape := ⟨2, ![4, 64]⟩
abbrev S124x128 : Shape := ⟨2, ![124, 128]⟩
abbrev S128x128 : Shape := ⟨2, ![128, 128]⟩
abbrev S64x1 : Shape := ⟨2, ![64, 1]⟩
abbrev S1x1x512 : Shape := ⟨3, ![1, 1, 512]⟩
abbrev S1x512 : Shape := ⟨2, ![1, 512]⟩
abbrev S1x1x384 : Shape := ⟨3, ![1, 1, 384]⟩
abbrev S1x384 : Shape := ⟨2, ![1, 384]⟩
abbrev S4 : Shape := ⟨1, ![4]⟩
abbrev S4x1 : Shape := ⟨2, ![4, 1]⟩

abbrev nBuf : Space → Nat
  | .hbm => 90
  | .vmem => 42
  | .smem => 0
  | _ => 0

abbrev bufTy : (tb : Table) → Fin (tcTables nBuf tb) → BufTy
  | .hbm, ⟨0, _⟩ => ⟨S8x4x4096, .bf16⟩
  | .hbm, ⟨1, _⟩ => ⟨S8x4x2x128, .bf16⟩
  | .hbm, ⟨2, _⟩ => ⟨S8x4x2x128, .bf16⟩
  | .hbm, ⟨3, _⟩ => ⟨S8x16256x2x64, .i8⟩
  | .hbm, ⟨4, _⟩ => ⟨S8x508x2x128, .f32⟩
  | .hbm, ⟨5, _⟩ => ⟨S8x508x2x128, .f32⟩
  | .hbm, ⟨6, _⟩ => ⟨S8x16256x2x64, .i8⟩
  | .hbm, ⟨7, _⟩ => ⟨S8x16256x2, .f32⟩
  | .hbm, ⟨8, _⟩ => ⟨S8x16256x2, .f32⟩
  | .hbm, ⟨9, _⟩ => ⟨S8x128x2x128, .bf16⟩
  | .hbm, ⟨10, _⟩ => ⟨S8x128x2x128, .bf16⟩
  | .hbm, ⟨11, _⟩ => ⟨S8x4x2x16x128, .bf16⟩
  | .hbm, ⟨12, _⟩ => ⟨S8x2x16x4x128, .bf16⟩
  | .hbm, ⟨13, _⟩ => ⟨S8x2x64x128, .bf16⟩
  | .hbm, ⟨14, _⟩ => ⟨S8x2x64x16256, .i8⟩
  | .hbm, ⟨15, _⟩ => ⟨S8x2x64x16256, .i8⟩
  | .hbm, ⟨16, _⟩ => ⟨S8x2x16256, .f32⟩
  | .hbm, ⟨17, _⟩ => ⟨S8x2x16256, .f32⟩
  | .hbm, ⟨18, _⟩ => ⟨S8x2x128x128, .bf16⟩
  | .hbm, ⟨19, _⟩ => ⟨S8x2x128x128, .bf16⟩
  | .hbm, ⟨20, _⟩ => ⟨S8x2x4x128, .bf16⟩
  | .hbm, ⟨21, _⟩ => ⟨S8x2x4x128, .bf16⟩
  | .hbm, ⟨22, _⟩ => ⟨S128, .i32⟩
  | .hbm, ⟨23, _⟩ => ⟨S128x1, .i32⟩
  | .hbm, ⟨24, _⟩ => ⟨S_, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i1⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i1⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S64, .i32⟩
  | .hbm, ⟨43, _⟩ => ⟨S1x64, .i32⟩
  | .hbm, ⟨44, _⟩ => ⟨S128x64, .i32⟩
  | .hbm, ⟨45, _⟩ => ⟨S128x64, .i32⟩
  | .hbm, ⟨46, _⟩ => ⟨S128x64, .i1⟩
  | .hbm, ⟨47, _⟩ => ⟨S128x1, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S_, .i32⟩
  | .hbm, ⟨60, _⟩ => ⟨S128x1, .i32⟩
  | .hbm, ⟨61, _⟩ => ⟨S128x1, .i1⟩
  | .hbm, ⟨62, _⟩ => ⟨S_, .i32⟩
  | .hbm, ⟨63, _⟩ => ⟨S_, .i1⟩
  | .hbm, ⟨64, _⟩ => ⟨S128x1, .i1⟩
  | .hbm, ⟨65, _⟩ => ⟨S128x1, .i1⟩
  | .hbm, ⟨66, _⟩ => ⟨S128x1, .i1⟩
  | .hbm, ⟨67, _⟩ => ⟨S128x1, .i32⟩
  | .hbm, ⟨68, _⟩ => ⟨S128x1, .i32⟩
  | .hbm, ⟨69, _⟩ => ⟨S128x1, .i32⟩
  | .hbm, ⟨70, _⟩ => ⟨S_, .i32⟩
  | .hbm, ⟨71, _⟩ => ⟨S128x1, .i32⟩
  | .hbm, ⟨72, _⟩ => ⟨S128x1, .i1⟩
  | .hbm, ⟨73, _⟩ => ⟨S_, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S128x1, .f32⟩
  | .hbm, ⟨78, _⟩ => ⟨S_, .f32⟩
  | .hbm, ⟨79, _⟩ => ⟨S128x64, .f32⟩
  | .hbm, ⟨80, _⟩ => ⟨S128x64, .f32⟩
  | .hbm, ⟨81, _⟩ => ⟨S128x64, .f32⟩
  | .hbm, ⟨82, _⟩ => ⟨S128x64, .bf16⟩
  | .hbm, ⟨83, _⟩ => ⟨S8x2x64x128, .bf16⟩
  | .hbm, ⟨84, _⟩ => ⟨S8x2x4x64, .i8⟩
  | .hbm, ⟨85, _⟩ => ⟨S8x2x1x128, .f32⟩
  | .hbm, ⟨86, _⟩ => ⟨S8x2x1x128, .f32⟩
  | .hbm, ⟨87, _⟩ => ⟨S8x2x4x64, .i8⟩
  | .hbm, ⟨88, _⟩ => ⟨S8x2x4x128, .f32⟩
  | .hbm, ⟨89, _⟩ => ⟨S8x2x4x128, .f32⟩
  | .local _ .vmem, ⟨0, _⟩ => ⟨S1x1x64x128, .bf16⟩
  | .local _ .vmem, ⟨1, _⟩ => ⟨S1x1x64x128, .bf16⟩
  | .local _ .vmem, ⟨2, _⟩ => ⟨S1x1x64x128, .bf16⟩
  | .local _ .vmem, ⟨3, _⟩ => ⟨S1x1x64x128, .bf16⟩
  | .local _ .vmem, ⟨4, _⟩ => ⟨S1x1x64x16256, .i8⟩
  | .local _ .vmem, ⟨5, _⟩ => ⟨S1x1x64x16256, .i8⟩
  | .local _ .vmem, ⟨6, _⟩ => ⟨S1x508x2x128, .f32⟩
  | .local _ .vmem, ⟨7, _⟩ => ⟨S1x508x2x128, .f32⟩
  | .local _ .vmem, ⟨8, _⟩ => ⟨S1x508x2x128, .f32⟩
  | .local _ .vmem, ⟨9, _⟩ => ⟨S1x508x2x128, .f32⟩
  | .local _ .vmem, ⟨10, _⟩ => ⟨S1x1x64x16256, .i8⟩
  | .local _ .vmem, ⟨11, _⟩ => ⟨S1x1x64x16256, .i8⟩
  | .local _ .vmem, ⟨12, _⟩ => ⟨S1x2x16256, .f32⟩
  | .local _ .vmem, ⟨13, _⟩ => ⟨S1x2x16256, .f32⟩
  | .local _ .vmem, ⟨14, _⟩ => ⟨S1x2x16256, .f32⟩
  | .local _ .vmem, ⟨15, _⟩ => ⟨S1x2x16256, .f32⟩
  | .local _ .vmem, ⟨16, _⟩ => ⟨S1x1x128x128, .bf16⟩
  | .local _ .vmem, ⟨17, _⟩ => ⟨S1x1x128x128, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S1x1x4x128, .bf16⟩
  | .local _ .vmem, ⟨21, _⟩ => ⟨S1x1x4x128, .bf16⟩
  | .local _ .vmem, ⟨22, _⟩ => ⟨S1x1x4x128, .bf16⟩
  | .local _ .vmem, ⟨23, _⟩ => ⟨S1x1x4x128, .bf16⟩
  | .local _ .vmem, ⟨24, _⟩ => ⟨S128x64, .bf16⟩
  | .local _ .vmem, ⟨25, _⟩ => ⟨S1x1x64x128, .bf16⟩
  | .local _ .vmem, ⟨26, _⟩ => ⟨S1x1x64x128, .bf16⟩
  | .local _ .vmem, ⟨27, _⟩ => ⟨S1x1x4x64, .i8⟩
  | .local _ .vmem, ⟨28, _⟩ => ⟨S1x1x4x64, .i8⟩
  | .local _ .vmem, ⟨29, _⟩ => ⟨S1x1x1x128, .f32⟩
  | .local _ .vmem, ⟨30, _⟩ => ⟨S1x1x1x128, .f32⟩
  | .local _ .vmem, ⟨31, _⟩ => ⟨S1x1x1x128, .f32⟩
  | .local _ .vmem, ⟨32, _⟩ => ⟨S1x1x1x128, .f32⟩
  | .local _ .vmem, ⟨33, _⟩ => ⟨S1x1x4x64, .i8⟩
  | .local _ .vmem, ⟨34, _⟩ => ⟨S1x1x4x64, .i8⟩
  | .local _ .vmem, ⟨35, _⟩ => ⟨S1x1x4x128, .f32⟩
  | .local _ .vmem, ⟨36, _⟩ => ⟨S1x1x4x128, .f32⟩
  | .local _ .vmem, ⟨37, _⟩ => ⟨S1x1x4x128, .f32⟩
  | .local _ .vmem, ⟨38, _⟩ => ⟨S1x1x4x128, .f32⟩
  | .local _ .vmem, ⟨39, _⟩ => ⟨S2x64x16256, .f32⟩
  | .local _ .vmem, ⟨40, _⟩ => ⟨S2x64x256, .f32⟩
  | .local _ .vmem, ⟨41, _⟩ => ⟨S2x64x128, .f32⟩
  | _, _ => ⟨S8x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_0 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_cst : Ref sig .tc := ⟨.hbm, 73, rfl⟩
abbrev main_cst_2 : Ref sig .tc := ⟨.hbm, 74, rfl⟩
abbrev main_call2_v0 : Ref sig .tc := ⟨.hbm, 75, rfl⟩
abbrev main_call2_v1 : Ref sig .tc := ⟨.hbm, 76, rfl⟩
abbrev main_v23 : Ref sig .tc := ⟨.hbm, 77, rfl⟩
abbrev main_cst_3 : Ref sig .tc := ⟨.hbm, 78, rfl⟩
abbrev main_call3_v0 : Ref sig .tc := ⟨.hbm, 79, rfl⟩
abbrev main_call3_v1 : Ref sig .tc := ⟨.hbm, 80, rfl⟩
abbrev main_v24 : Ref sig .tc := ⟨.hbm, 81, rfl⟩
abbrev main_v25 : Ref sig .tc := ⟨.hbm, 82, rfl⟩
abbrev main_v26_0 : Ref sig .tc := ⟨.hbm, 83, rfl⟩
abbrev main_v26_1 : Ref sig .tc := ⟨.hbm, 84, rfl⟩
abbrev main_v26_2 : Ref sig .tc := ⟨.hbm, 85, rfl⟩
abbrev main_v26_3 : Ref sig .tc := ⟨.hbm, 86, rfl⟩
abbrev main_v26_4 : Ref sig .tc := ⟨.hbm, 87, rfl⟩
abbrev main_v26_5 : Ref sig .tc := ⟨.hbm, 88, rfl⟩
abbrev main_v26_6 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨1, ![17], ![false]⟩

def k0_off1 (i : grid0.Coords) : Fin 4 → Nat :=
  let c0_8 : Index := 0#32
  let c0_9 : Index := 0#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v13 : Index := Scalar.indexCast v3
  let c0_10 : Index := 0#32
  ![0, 0, v13.toNat, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v44 : Index := Scalar.indexCast v0
  let c0_20 : Index := 0#32
  let c0_21 : Index := 0#32
  ![v44.toNat, 0, 0]
def k0_off3 (i : grid0.Coords) : Fin 4 → Nat :=
  let c0_22 : Index := 0#32
  let c16 : Index := 16#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v56 : Index := Scalar.indexCast v3
  let c0_23 : Index := 0#32
  ![0, 16, v56.toNat, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v87 : Index := Scalar.indexCast v0
  let c0_33 : Index := 0#32
  let c512_34 : Index := 512#32
  ![v87.toNat, 0, 512]
def k0_off5 (i : grid0.Coords) : Fin 4 → Nat :=
  let c0_35 : Index := 0#32
  let c32 : Index := 32#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v99 : Index := Scalar.indexCast v3
  let c0_36 : Index := 0#32
  ![0, 32, v99.toNat, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v130 : Index := Scalar.indexCast v0
  let c0_46 : Index := 0#32
  let c1024_47 : Index := 1024#32
  ![v130.toNat, 0, 1024]
def k0_off7 (i : grid0.Coords) : Fin 4 → Nat :=
  let c0_48 : Index := 0#32
  let c48 : Index := 48#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v142 : Index := Scalar.indexCast v3
  let c0_49 : Index := 0#32
  ![0, 48, v142.toNat, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v173 : Index := Scalar.indexCast v0
  let c0_59 : Index := 0#32
  let c1536_60 : Index := 1536#32
  ![v173.toNat, 0, 1536]
def k0_off9 (i : grid0.Coords) : Fin 4 → Nat :=
  let c0_61 : Index := 0#32
  let c64 : Index := 64#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v185 : Index := Scalar.indexCast v3
  let c0_62 : Index := 0#32
  ![0, 64, v185.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v216 : Index := Scalar.indexCast v0
  let c0_72 : Index := 0#32
  let c2048_73 : Index := 2048#32
  ![v216.toNat, 0, 2048]
def k0_off11 (i : grid0.Coords) : Fin 4 → Nat :=
  let c0_74 : Index := 0#32
  let c80 : Index := 80#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v228 : Index := Scalar.indexCast v3
  let c0_75 : Index := 0#32
  ![0, 80, v228.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v259 : Index := Scalar.indexCast v0
  let c0_85 : Index := 0#32
  let c2560_86 : Index := 2560#32
  ![v259.toNat, 0, 2560]
def k0_off13 (i : grid0.Coords) : Fin 4 → Nat :=
  let c0_87 : Index := 0#32
  let c96 : Index := 96#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v271 : Index := Scalar.indexCast v3
  let c0_88 : Index := 0#32
  ![0, 96, v271.toNat, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v302 : Index := Scalar.indexCast v0
  let c0_98 : Index := 0#32
  let c3072_99 : Index := 3072#32
  ![v302.toNat, 0, 3072]
def k0_off15 (i : grid0.Coords) : Fin 4 → Nat :=
  let c0_100 : Index := 0#32
  let c112 : Index := 112#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v314 : Index := Scalar.indexCast v3
  let c0_101 : Index := 0#32
  ![0, 112, v314.toNat, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v345 : Index := Scalar.indexCast v0
  let c0_111 : Index := 0#32
  let c3584_112 : Index := 3584#32
  ![v345.toNat, 0, 3584]
def k0_off17 (i : grid0.Coords) : Fin 4 → Nat :=
  let c0_113 : Index := 0#32
  let c128 : Index := 128#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v357 : Index := Scalar.indexCast v3
  let c0_114 : Index := 0#32
  ![0, 128, v357.toNat, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v388 : Index := Scalar.indexCast v0
  let c0_124 : Index := 0#32
  let c4096_125 : Index := 4096#32
  ![v388.toNat, 0, 4096]
def k0_off19 (i : grid0.Coords) : Fin 4 → Nat :=
  let c0_126 : Index := 0#32
  let c144 : Index := 144#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v400 : Index := Scalar.indexCast v3
  let c0_127 : Index := 0#32
  ![0, 144, v400.toNat, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v431 : Index := Scalar.indexCast v0
  let c0_137 : Index := 0#32
  let c4608_138 : Index := 4608#32
  ![v431.toNat, 0, 4608]
def k0_off21 (i : grid0.Coords) : Fin 4 → Nat :=
  let c0_139 : Index := 0#32
  let c160 : Index := 160#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v443 : Index := Scalar.indexCast v3
  let c0_140 : Index := 0#32
  ![0, 160, v443.toNat, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v474 : Index := Scalar.indexCast v0
  let c0_150 : Index := 0#32
  let c5120_151 : Index := 5120#32
  ![v474.toNat, 0, 5120]
def k0_off23 (i : grid0.Coords) : Fin 4 → Nat :=
  let c0_152 : Index := 0#32
  let c176 : Index := 176#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v486 : Index := Scalar.indexCast v3
  let c0_153 : Index := 0#32
  ![0, 176, v486.toNat, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v517 : Index := Scalar.indexCast v0
  let c0_163 : Index := 0#32
  let c5632_164 : Index := 5632#32
  ![v517.toNat, 0, 5632]
def k0_off25 (i : grid0.Coords) : Fin 4 → Nat :=
  let c0_165 : Index := 0#32
  let c192 : Index := 192#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v529 : Index := Scalar.indexCast v3
  let c0_166 : Index := 0#32
  ![0, 192, v529.toNat, 0]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v560 : Index := Scalar.indexCast v0
  let c0_176 : Index := 0#32
  let c6144_177 : Index := 6144#32
  ![v560.toNat, 0, 6144]
def k0_off27 (i : grid0.Coords) : Fin 4 → Nat :=
  let c0_178 : Index := 0#32
  let c208 : Index := 208#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v572 : Index := Scalar.indexCast v3
  let c0_179 : Index := 0#32
  ![0, 208, v572.toNat, 0]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v603 : Index := Scalar.indexCast v0
  let c0_189 : Index := 0#32
  let c6656_190 : Index := 6656#32
  ![v603.toNat, 0, 6656]
def k0_off29 (i : grid0.Coords) : Fin 4 → Nat :=
  let c0_191 : Index := 0#32
  let c224 : Index := 224#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v615 : Index := Scalar.indexCast v3
  let c0_192 : Index := 0#32
  ![0, 224, v615.toNat, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v646 : Index := Scalar.indexCast v0
  let c0_202 : Index := 0#32
  let c7168_203 : Index := 7168#32
  ![v646.toNat, 0, 7168]
def k0_off31 (i : grid0.Coords) : Fin 4 → Nat :=
  let c0_204 : Index := 0#32
  let c240 : Index := 240#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v658 : Index := Scalar.indexCast v3
  let c0_205 : Index := 0#32
  ![0, 240, v658.toNat, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v689 : Index := Scalar.indexCast v0
  let c0_215 : Index := 0#32
  let c7680_216 : Index := 7680#32
  ![v689.toNat, 0, 7680]
def k0_off33 (i : grid0.Coords) : Fin 4 → Nat :=
  let c0_217 : Index := 0#32
  let c256 : Index := 256#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v701 : Index := Scalar.indexCast v3
  let c0_218 : Index := 0#32
  ![0, 256, v701.toNat, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v732 : Index := Scalar.indexCast v0
  let c0_228 : Index := 0#32
  let c8192_229 : Index := 8192#32
  ![v732.toNat, 0, 8192]
def k0_off35 (i : grid0.Coords) : Fin 4 → Nat :=
  let c0_230 : Index := 0#32
  let c272 : Index := 272#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v744 : Index := Scalar.indexCast v3
  let c0_231 : Index := 0#32
  ![0, 272, v744.toNat, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v775 : Index := Scalar.indexCast v0
  let c0_241 : Index := 0#32
  let c8704_242 : Index := 8704#32
  ![v775.toNat, 0, 8704]
def k0_off37 (i : grid0.Coords) : Fin 4 → Nat :=
  let c0_243 : Index := 0#32
  let c288 : Index := 288#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v787 : Index := Scalar.indexCast v3
  let c0_244 : Index := 0#32
  ![0, 288, v787.toNat, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v818 : Index := Scalar.indexCast v0
  let c0_254 : Index := 0#32
  let c9216_255 : Index := 9216#32
  ![v818.toNat, 0, 9216]
def k0_off39 (i : grid0.Coords) : Fin 4 → Nat :=
  let c0_256 : Index := 0#32
  let c304 : Index := 304#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v830 : Index := Scalar.indexCast v3
  let c0_257 : Index := 0#32
  ![0, 304, v830.toNat, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v861 : Index := Scalar.indexCast v0
  let c0_267 : Index := 0#32
  let c9728_268 : Index := 9728#32
  ![v861.toNat, 0, 9728]
def k0_off41 (i : grid0.Coords) : Fin 4 → Nat :=
  let c0_269 : Index := 0#32
  let c320 : Index := 320#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v873 : Index := Scalar.indexCast v3
  let c0_270 : Index := 0#32
  ![0, 320, v873.toNat, 0]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v904 : Index := Scalar.indexCast v0
  let c0_280 : Index := 0#32
  let c10240_281 : Index := 10240#32
  ![v904.toNat, 0, 10240]
def k0_off43 (i : grid0.Coords) : Fin 4 → Nat :=
  let c0_282 : Index := 0#32
  let c336 : Index := 336#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v916 : Index := Scalar.indexCast v3
  let c0_283 : Index := 0#32
  ![0, 336, v916.toNat, 0]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v947 : Index := Scalar.indexCast v0
  let c0_293 : Index := 0#32
  let c10752_294 : Index := 10752#32
  ![v947.toNat, 0, 10752]
def k0_off45 (i : grid0.Coords) : Fin 4 → Nat :=
  let c0_295 : Index := 0#32
  let c352 : Index := 352#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v959 : Index := Scalar.indexCast v3
  let c0_296 : Index := 0#32
  ![0, 352, v959.toNat, 0]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v990 : Index := Scalar.indexCast v0
  let c0_306 : Index := 0#32
  let c11264_307 : Index := 11264#32
  ![v990.toNat, 0, 11264]
def k0_off47 (i : grid0.Coords) : Fin 4 → Nat :=
  let c0_308 : Index := 0#32
  let c368 : Index := 368#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1002 : Index := Scalar.indexCast v3
  let c0_309 : Index := 0#32
  ![0, 368, v1002.toNat, 0]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v1033 : Index := Scalar.indexCast v0
  let c0_319 : Index := 0#32
  let c11776_320 : Index := 11776#32
  ![v1033.toNat, 0, 11776]
def k0_off49 (i : grid0.Coords) : Fin 4 → Nat :=
  let c0_321 : Index := 0#32
  let c384 : Index := 384#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1045 : Index := Scalar.indexCast v3
  let c0_322 : Index := 0#32
  ![0, 384, v1045.toNat, 0]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v1076 : Index := Scalar.indexCast v0
  let c0_332 : Index := 0#32
  let c12288_333 : Index := 12288#32
  ![v1076.toNat, 0, 12288]
def k0_off51 (i : grid0.Coords) : Fin 4 → Nat :=
  let c0_334 : Index := 0#32
  let c400 : Index := 400#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1088 : Index := Scalar.indexCast v3
  let c0_335 : Index := 0#32
  ![0, 400, v1088.toNat, 0]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v1119 : Index := Scalar.indexCast v0
  let c0_345 : Index := 0#32
  let c12800_346 : Index := 12800#32
  ![v1119.toNat, 0, 12800]
def k0_off53 (i : grid0.Coords) : Fin 4 → Nat :=
  let c0_347 : Index := 0#32
  let c416 : Index := 416#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1131 : Index := Scalar.indexCast v3
  let c0_348 : Index := 0#32
  ![0, 416, v1131.toNat, 0]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v1162 : Index := Scalar.indexCast v0
  let c0_358 : Index := 0#32
  let c13312_359 : Index := 13312#32
  ![v1162.toNat, 0, 13312]
def k0_off55 (i : grid0.Coords) : Fin 4 → Nat :=
  let c0_360 : Index := 0#32
  let c432 : Index := 432#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1174 : Index := Scalar.indexCast v3
  let c0_361 : Index := 0#32
  ![0, 432, v1174.toNat, 0]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v1205 : Index := Scalar.indexCast v0
  let c0_371 : Index := 0#32
  let c13824_372 : Index := 13824#32
  ![v1205.toNat, 0, 13824]
def k0_off57 (i : grid0.Coords) : Fin 4 → Nat :=
  let c0_373 : Index := 0#32
  let c448 : Index := 448#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1217 : Index := Scalar.indexCast v3
  let c0_374 : Index := 0#32
  ![0, 448, v1217.toNat, 0]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v1248 : Index := Scalar.indexCast v0
  let c0_384 : Index := 0#32
  let c14336_385 : Index := 14336#32
  ![v1248.toNat, 0, 14336]
def k0_off59 (i : grid0.Coords) : Fin 4 → Nat :=
  let c0_386 : Index := 0#32
  let c464 : Index := 464#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1260 : Index := Scalar.indexCast v3
  let c0_387 : Index := 0#32
  ![0, 464, v1260.toNat, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v1291 : Index := Scalar.indexCast v0
  let c0_397 : Index := 0#32
  let c14848_398 : Index := 14848#32
  ![v1291.toNat, 0, 14848]
def k0_off61 (i : grid0.Coords) : Fin 4 → Nat :=
  let c0_399 : Index := 0#32
  let c480 : Index := 480#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1303 : Index := Scalar.indexCast v3
  let c0_400 : Index := 0#32
  ![0, 480, v1303.toNat, 0]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v1334 : Index := Scalar.indexCast v0
  let c0_410 : Index := 0#32
  let c15360_411 : Index := 15360#32
  ![v1334.toNat, 0, 15360]
def k0_off63 (i : grid0.Coords) : Fin 4 → Nat :=
  let c0_412 : Index := 0#32
  let c496 : Index := 496#32
  let arg0 : BitVec 32 := BitVec.ofNat 32 (i 0).val
  let c15_i32 : BitVec 32 := 15#32
  let v2 : BitVec 32 := Scalar.minsi arg0 c15_i32
  let c2_i32_0 : BitVec 32 := 2#32
  let v3 : BitVec 32 := Scalar.remsi v2 c2_i32_0
  let v1346 : Index := Scalar.indexCast v3
  let c0_413 : Index := 0#32
  ![0, 496, v1346.toNat, 0]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v1377 : Index := Scalar.indexCast v0
  let c0_423 : Index := 0#32
  let c15872_424 : Index := 15872#32
  ![v1377.toNat, 0, 15872]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v1445 : Index := Scalar.indexCast v0
  let c0_460 : Index := 0#32
  let c0_461 : Index := 0#32
  ![v1445.toNat, 0, 0]
def k0_off66 (i : grid0.Coords) : Fin 3 → Nat :=
  let arg0 : BitVec 32 := BitVec.ofNat 32 (i 0).val
  let c2_i32 : BitVec 32 := 2#32
  let v0 : BitVec 32 := Scalar.remsi arg0 c2_i32
  let v1449 : Index := Scalar.indexCast v0
  let c0_462 : Index := 0#32
  let c128_463 : Index := 128#32
  ![v1449.toNat, 0, 128]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v1455 : Index := Scalar.indexCast v0
  let c0_464 : Index := 0#32
  let c0_465 : Index := 0#32
  ![v1455.toNat, 0, 0]
def k0_off68 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1459 : Index := Scalar.indexCast v1
  let c0_466 : Index := 0#32
  let c0_467 : Index := 0#32
  ![v1459.toNat, 0, 0]
def k0_off69 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1468 : Index := Scalar.indexCast v1
  let c0_471 : Index := 0#32
  let c0_472 : Index := 0#32
  ![v1468.toNat, 0, 0]
def k0_off70 (i : grid0.Coords) : Fin 3 → Nat :=
  let c0_474 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1484 : Index := Scalar.indexCast v6
  let c0_475 : Index := 0#32
  ![0, v1484.toNat, 0]
def k0_off71 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1511 : Index := Scalar.indexCast v1
  let c0_485 : Index := 0#32
  let c512_486 : Index := 512#32
  ![v1511.toNat, 0, 512]
def k0_off72 (i : grid0.Coords) : Fin 3 → Nat :=
  let c0_488 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1527 : Index := Scalar.indexCast v6
  let c512_489 : Index := 512#32
  ![0, v1527.toNat, 512]
def k0_off73 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1554 : Index := Scalar.indexCast v1
  let c0_499 : Index := 0#32
  let c1024_500 : Index := 1024#32
  ![v1554.toNat, 0, 1024]
def k0_off74 (i : grid0.Coords) : Fin 3 → Nat :=
  let c0_502 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1570 : Index := Scalar.indexCast v6
  let c1024_503 : Index := 1024#32
  ![0, v1570.toNat, 1024]
def k0_off75 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1597 : Index := Scalar.indexCast v1
  let c0_513 : Index := 0#32
  let c1536_514 : Index := 1536#32
  ![v1597.toNat, 0, 1536]
def k0_off76 (i : grid0.Coords) : Fin 3 → Nat :=
  let c0_516 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1613 : Index := Scalar.indexCast v6
  let c1536_517 : Index := 1536#32
  ![0, v1613.toNat, 1536]
def k0_off77 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1640 : Index := Scalar.indexCast v1
  let c0_527 : Index := 0#32
  let c2048_528 : Index := 2048#32
  ![v1640.toNat, 0, 2048]
def k0_off78 (i : grid0.Coords) : Fin 3 → Nat :=
  let c0_530 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1656 : Index := Scalar.indexCast v6
  let c2048_531 : Index := 2048#32
  ![0, v1656.toNat, 2048]
def k0_off79 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1683 : Index := Scalar.indexCast v1
  let c0_541 : Index := 0#32
  let c2560_542 : Index := 2560#32
  ![v1683.toNat, 0, 2560]
def k0_off80 (i : grid0.Coords) : Fin 3 → Nat :=
  let c0_544 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1699 : Index := Scalar.indexCast v6
  let c2560_545 : Index := 2560#32
  ![0, v1699.toNat, 2560]
def k0_off81 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1726 : Index := Scalar.indexCast v1
  let c0_555 : Index := 0#32
  let c3072_556 : Index := 3072#32
  ![v1726.toNat, 0, 3072]
def k0_off82 (i : grid0.Coords) : Fin 3 → Nat :=
  let c0_558 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1742 : Index := Scalar.indexCast v6
  let c3072_559 : Index := 3072#32
  ![0, v1742.toNat, 3072]
def k0_off83 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1769 : Index := Scalar.indexCast v1
  let c0_569 : Index := 0#32
  let c3584_570 : Index := 3584#32
  ![v1769.toNat, 0, 3584]
def k0_off84 (i : grid0.Coords) : Fin 3 → Nat :=
  let c0_572 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1785 : Index := Scalar.indexCast v6
  let c3584_573 : Index := 3584#32
  ![0, v1785.toNat, 3584]
def k0_off85 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1812 : Index := Scalar.indexCast v1
  let c0_583 : Index := 0#32
  let c4096_584 : Index := 4096#32
  ![v1812.toNat, 0, 4096]
def k0_off86 (i : grid0.Coords) : Fin 3 → Nat :=
  let c0_586 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1828 : Index := Scalar.indexCast v6
  let c4096_587 : Index := 4096#32
  ![0, v1828.toNat, 4096]
def k0_off87 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1855 : Index := Scalar.indexCast v1
  let c0_597 : Index := 0#32
  let c4608_598 : Index := 4608#32
  ![v1855.toNat, 0, 4608]
def k0_off88 (i : grid0.Coords) : Fin 3 → Nat :=
  let c0_600 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1871 : Index := Scalar.indexCast v6
  let c4608_601 : Index := 4608#32
  ![0, v1871.toNat, 4608]
def k0_off89 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1898 : Index := Scalar.indexCast v1
  let c0_611 : Index := 0#32
  let c5120_612 : Index := 5120#32
  ![v1898.toNat, 0, 5120]
def k0_off90 (i : grid0.Coords) : Fin 3 → Nat :=
  let c0_614 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1914 : Index := Scalar.indexCast v6
  let c5120_615 : Index := 5120#32
  ![0, v1914.toNat, 5120]
def k0_off91 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1941 : Index := Scalar.indexCast v1
  let c0_625 : Index := 0#32
  let c5632_626 : Index := 5632#32
  ![v1941.toNat, 0, 5632]
def k0_off92 (i : grid0.Coords) : Fin 3 → Nat :=
  let c0_628 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v1957 : Index := Scalar.indexCast v6
  let c5632_629 : Index := 5632#32
  ![0, v1957.toNat, 5632]
def k0_off93 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1984 : Index := Scalar.indexCast v1
  let c0_639 : Index := 0#32
  let c6144_640 : Index := 6144#32
  ![v1984.toNat, 0, 6144]
def k0_off94 (i : grid0.Coords) : Fin 3 → Nat :=
  let c0_642 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2000 : Index := Scalar.indexCast v6
  let c6144_643 : Index := 6144#32
  ![0, v2000.toNat, 6144]
def k0_off95 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2027 : Index := Scalar.indexCast v1
  let c0_653 : Index := 0#32
  let c6656_654 : Index := 6656#32
  ![v2027.toNat, 0, 6656]
def k0_off96 (i : grid0.Coords) : Fin 3 → Nat :=
  let c0_656 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2043 : Index := Scalar.indexCast v6
  let c6656_657 : Index := 6656#32
  ![0, v2043.toNat, 6656]
def k0_off97 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2070 : Index := Scalar.indexCast v1
  let c0_667 : Index := 0#32
  let c7168_668 : Index := 7168#32
  ![v2070.toNat, 0, 7168]
def k0_off98 (i : grid0.Coords) : Fin 3 → Nat :=
  let c0_670 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2086 : Index := Scalar.indexCast v6
  let c7168_671 : Index := 7168#32
  ![0, v2086.toNat, 7168]
def k0_off99 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2113 : Index := Scalar.indexCast v1
  let c0_681 : Index := 0#32
  let c7680_682 : Index := 7680#32
  ![v2113.toNat, 0, 7680]
def k0_off100 (i : grid0.Coords) : Fin 3 → Nat :=
  let c0_684 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2129 : Index := Scalar.indexCast v6
  let c7680_685 : Index := 7680#32
  ![0, v2129.toNat, 7680]
def k0_off101 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2156 : Index := Scalar.indexCast v1
  let c0_695 : Index := 0#32
  let c8192_696 : Index := 8192#32
  ![v2156.toNat, 0, 8192]
def k0_off102 (i : grid0.Coords) : Fin 3 → Nat :=
  let c0_698 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2172 : Index := Scalar.indexCast v6
  let c8192_699 : Index := 8192#32
  ![0, v2172.toNat, 8192]
def k0_off103 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2199 : Index := Scalar.indexCast v1
  let c0_709 : Index := 0#32
  let c8704_710 : Index := 8704#32
  ![v2199.toNat, 0, 8704]
def k0_off104 (i : grid0.Coords) : Fin 3 → Nat :=
  let c0_712 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2215 : Index := Scalar.indexCast v6
  let c8704_713 : Index := 8704#32
  ![0, v2215.toNat, 8704]
def k0_off105 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2242 : Index := Scalar.indexCast v1
  let c0_723 : Index := 0#32
  let c9216_724 : Index := 9216#32
  ![v2242.toNat, 0, 9216]
def k0_off106 (i : grid0.Coords) : Fin 3 → Nat :=
  let c0_726 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2258 : Index := Scalar.indexCast v6
  let c9216_727 : Index := 9216#32
  ![0, v2258.toNat, 9216]
def k0_off107 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2285 : Index := Scalar.indexCast v1
  let c0_737 : Index := 0#32
  let c9728_738 : Index := 9728#32
  ![v2285.toNat, 0, 9728]
def k0_off108 (i : grid0.Coords) : Fin 3 → Nat :=
  let c0_740 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2301 : Index := Scalar.indexCast v6
  let c9728_741 : Index := 9728#32
  ![0, v2301.toNat, 9728]
def k0_off109 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2328 : Index := Scalar.indexCast v1
  let c0_751 : Index := 0#32
  let c10240_752 : Index := 10240#32
  ![v2328.toNat, 0, 10240]
def k0_off110 (i : grid0.Coords) : Fin 3 → Nat :=
  let c0_754 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2344 : Index := Scalar.indexCast v6
  let c10240_755 : Index := 10240#32
  ![0, v2344.toNat, 10240]
def k0_off111 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2371 : Index := Scalar.indexCast v1
  let c0_765 : Index := 0#32
  let c10752_766 : Index := 10752#32
  ![v2371.toNat, 0, 10752]
def k0_off112 (i : grid0.Coords) : Fin 3 → Nat :=
  let c0_768 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2387 : Index := Scalar.indexCast v6
  let c10752_769 : Index := 10752#32
  ![0, v2387.toNat, 10752]
def k0_off113 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2414 : Index := Scalar.indexCast v1
  let c0_779 : Index := 0#32
  let c11264_780 : Index := 11264#32
  ![v2414.toNat, 0, 11264]
def k0_off114 (i : grid0.Coords) : Fin 3 → Nat :=
  let c0_782 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2430 : Index := Scalar.indexCast v6
  let c11264_783 : Index := 11264#32
  ![0, v2430.toNat, 11264]
def k0_off115 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2457 : Index := Scalar.indexCast v1
  let c0_793 : Index := 0#32
  let c11776_794 : Index := 11776#32
  ![v2457.toNat, 0, 11776]
def k0_off116 (i : grid0.Coords) : Fin 3 → Nat :=
  let c0_796 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2473 : Index := Scalar.indexCast v6
  let c11776_797 : Index := 11776#32
  ![0, v2473.toNat, 11776]
def k0_off117 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2500 : Index := Scalar.indexCast v1
  let c0_807 : Index := 0#32
  let c12288_808 : Index := 12288#32
  ![v2500.toNat, 0, 12288]
def k0_off118 (i : grid0.Coords) : Fin 3 → Nat :=
  let c0_810 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2516 : Index := Scalar.indexCast v6
  let c12288_811 : Index := 12288#32
  ![0, v2516.toNat, 12288]
def k0_off119 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2543 : Index := Scalar.indexCast v1
  let c0_821 : Index := 0#32
  let c12800_822 : Index := 12800#32
  ![v2543.toNat, 0, 12800]
def k0_off120 (i : grid0.Coords) : Fin 3 → Nat :=
  let c0_824 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2559 : Index := Scalar.indexCast v6
  let c12800_825 : Index := 12800#32
  ![0, v2559.toNat, 12800]
def k0_off121 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2586 : Index := Scalar.indexCast v1
  let c0_835 : Index := 0#32
  let c13312_836 : Index := 13312#32
  ![v2586.toNat, 0, 13312]
def k0_off122 (i : grid0.Coords) : Fin 3 → Nat :=
  let c0_838 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2602 : Index := Scalar.indexCast v6
  let c13312_839 : Index := 13312#32
  ![0, v2602.toNat, 13312]
def k0_off123 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2629 : Index := Scalar.indexCast v1
  let c0_849 : Index := 0#32
  let c13824_850 : Index := 13824#32
  ![v2629.toNat, 0, 13824]
def k0_off124 (i : grid0.Coords) : Fin 3 → Nat :=
  let c0_852 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2645 : Index := Scalar.indexCast v6
  let c13824_853 : Index := 13824#32
  ![0, v2645.toNat, 13824]
def k0_off125 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2672 : Index := Scalar.indexCast v1
  let c0_863 : Index := 0#32
  let c14336_864 : Index := 14336#32
  ![v2672.toNat, 0, 14336]
def k0_off126 (i : grid0.Coords) : Fin 3 → Nat :=
  let c0_866 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2688 : Index := Scalar.indexCast v6
  let c14336_867 : Index := 14336#32
  ![0, v2688.toNat, 14336]
def k0_off127 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2715 : Index := Scalar.indexCast v1
  let c0_877 : Index := 0#32
  let c14848_878 : Index := 14848#32
  ![v2715.toNat, 0, 14848]
def k0_off128 (i : grid0.Coords) : Fin 3 → Nat :=
  let c0_880 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2731 : Index := Scalar.indexCast v6
  let c14848_881 : Index := 14848#32
  ![0, v2731.toNat, 14848]
def k0_off129 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2758 : Index := Scalar.indexCast v1
  let c0_891 : Index := 0#32
  let c15360_892 : Index := 15360#32
  ![v2758.toNat, 0, 15360]
def k0_off130 (i : grid0.Coords) : Fin 3 → Nat :=
  let c0_894 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2774 : Index := Scalar.indexCast v6
  let c15360_895 : Index := 15360#32
  ![0, v2774.toNat, 15360]
def k0_off131 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2801 : Index := Scalar.indexCast v1
  let c0_905 : Index := 0#32
  let c15872_906 : Index := 15872#32
  ![v2801.toNat, 0, 15872]
def k0_off132 (i : grid0.Coords) : Fin 3 → Nat :=
  let c0_908 : Index := 0#32
  let arg0 : BitVec 32 := BitVec.ofNat 32 (i 0).val
  let c1_i32_1 : BitVec 32 := 1#32
  let v4 : BitVec 32 := Scalar.subi arg0 c1_i32_1
  let c0_i32 : BitVec 32 := 0#32
  let v5 : BitVec 32 := Scalar.maxsi v4 c0_i32
  let c2_i32_2 : BitVec 32 := 2#32
  let v6 : BitVec 32 := Scalar.remsi v5 c2_i32_2
  let v2815 : Index := Scalar.indexCast v6
  let c15872_909 : Index := 15872#32
  ![0, v2815.toNat, 15872]
def k0_off133 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2893 : Index := Scalar.indexCast v1
  let c0_946 : Index := 0#32
  let c0_947 : Index := 0#32
  ![v2893.toNat, 0, 0]
def k0_off134 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2900 : Index := Scalar.indexCast v1
  let c0_949 : Index := 0#32
  let c128_950 : Index := 128#32
  ![v2900.toNat, 0, 128]
def cc0_transform_0 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_1 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_2 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_3 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_4 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_8 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_10 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_14 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_15 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_16 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_17 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_18 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

def cc0_transform_19 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

abbrev stage0_0 : Fin 2 → Memref sig .tc .vmem S1x1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x16256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x508x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x508x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64x16256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x16256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x16256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x4x64 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x4x64 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "exp2_scale" => some (((Real.sqrt 128)⁻¹ * (Real.log 2)⁻¹ : ℝ) : EReal)
  | _ => none
-- ==== ReferenceIdeal.lean ====
abbrev S8x4x4096 : Shape := ⟨3, ![8, 4, 4096]⟩
abbrev S8x4x2x128 : Shape := ⟨4, ![8, 4, 2, 128]⟩
abbrev S8x16256x2x64 : Shape := ⟨4, ![8, 16256, 2, 64]⟩
abbrev S8x508x2x128 : Shape := ⟨4, ![8, 508, 2, 128]⟩
abbrev S8x16256x2 : Shape := ⟨3, ![8, 16256, 2]⟩
abbrev S8x128x2x128 : Shape := ⟨4, ![8, 128, 2, 128]⟩
abbrev S8x4x2x16x128 : Shape := ⟨5, ![8, 4, 2, 16, 128]⟩
abbrev S_ : Shape := ⟨0, ![]⟩
abbrev S8x2x128 : Shape := ⟨3, ![8, 2, 128]⟩
abbrev S8x1x2x128 : Shape := ⟨4, ![8, 1, 2, 128]⟩
abbrev S8x4x2x64 : Shape := ⟨4, ![8, 4, 2, 64]⟩
abbrev S8x4x2 : Shape := ⟨3, ![8, 4, 2]⟩
abbrev S8x4x2x1 : Shape := ⟨4, ![8, 4, 2, 1]⟩
abbrev S8x508x32x2x128 : Shape := ⟨5, ![8, 508, 32, 2, 128]⟩
abbrev S8x16256x2x128 : Shape := ⟨4, ![8, 16256, 2, 128]⟩
abbrev S8x16256x2x64x1 : Shape := ⟨5, ![8, 16256, 2, 64, 1]⟩
abbrev S8x16256x2x64x2 : Shape := ⟨5, ![8, 16256, 2, 64, 2]⟩
abbrev S8x4x2x64x1 : Shape := ⟨5, ![8, 4, 2, 64, 1]⟩
abbrev S8x4x2x64x2 : Shape := ⟨5, ![8, 4, 2, 64, 2]⟩
abbrev S8x16388x2x128 : Shape := ⟨4, ![8, 16388, 2, 128]⟩
abbrev S8x16256x2x1 : Shape := ⟨4, ![8, 16256, 2, 1]⟩
abbrev S8x2x16388x4x16 : Shape := ⟨5, ![8, 2, 16388, 4, 16]⟩
abbrev S8x2x16x4x16388 : Shape := ⟨5, ![8, 2, 16, 4, 16388]⟩
abbrev S16388 : Shape := ⟨1, ![16388]⟩
abbrev S1x16388 : Shape := ⟨2, ![1, 16388]⟩
abbrev S4 : Shape := ⟨1, ![4]⟩
abbrev S4x1 : Shape := ⟨2, ![4, 1]⟩
abbrev S4x16388 : Shape := ⟨2, ![4, 16388]⟩
abbrev S8x2x16x4 : Shape := ⟨4, ![8, 2, 16, 4]⟩
abbrev S8x2x16x4x1 : Shape := ⟨5, ![8, 2, 16, 4, 1]⟩
abbrev S8x2x16x4x128 : Shape := ⟨5, ![8, 2, 16, 4, 128]⟩
abbrev S8x2x64x128 : Shape := ⟨4, ![8, 2, 64, 128]⟩
abbrev S8x2x4x64 : Shape := ⟨4, ![8, 2, 4, 64]⟩
abbrev S8x2x1x128 : Shape := ⟨4, ![8, 2, 1, 128]⟩
abbrev S8x2x4x1 : Shape := ⟨4, ![8, 2, 4, 1]⟩
abbrev S8x2x4x128 : Shape := ⟨4, ![8, 2, 4, 128]⟩

abbrev nBuf : Space → Nat
  | .hbm => 213
  | .vmem => 0
  | .smem => 0
  | _ => 0

abbrev hbmTy0_0 (i : Nat) : BufTy := match i % 128 with
  | 0 => ⟨S8x4x4096, .bf16⟩
  | 1 => ⟨S8x4x2x128, .bf16⟩
  | 2 => ⟨S8x4x2x128, .bf16⟩
  | 3 => ⟨S8x16256x2x64, .i8⟩
  | 4 => ⟨S8x508x2x128, .f32⟩
  | 5 => ⟨S8x508x2x128, .f32⟩
  | 6 => ⟨S8x16256x2x64, .i8⟩
  | 7 => ⟨S8x16256x2, .f32⟩
  | 8 => ⟨S8x16256x2, .f32⟩
  | 9 => ⟨S8x128x2x128, .bf16⟩
  | 10 => ⟨S8x128x2x128, .bf16⟩
  | 11 => ⟨S8x4x2x16x128, .bf16⟩
  | 12 => ⟨S8x4x2x128, .f32⟩
  | 13 => ⟨S_, .f32⟩
  | 14 => ⟨S8x2x128, .f32⟩
  | 15 => ⟨S8x1x2x128, .f32⟩
  | 16 => ⟨S_, .f32⟩
  | 17 => ⟨S8x2x128, .f32⟩
  | 18 => ⟨S8x1x2x128, .f32⟩
  | 19 => ⟨S8x1x2x128, .f32⟩
  | 20 => ⟨S_, .f32⟩
  | 21 => ⟨S8x1x2x128, .f32⟩
  | 22 => ⟨S8x1x2x128, .i1⟩
  | 23 => ⟨S_, .f32⟩
  | 24 => ⟨S8x1x2x128, .f32⟩
  | 25 => ⟨S8x1x2x128, .f32⟩
  | 26 => ⟨S_, .f32⟩
  | 27 => ⟨S8x1x2x128, .f32⟩
  | 28 => ⟨S8x1x2x128, .f32⟩
  | 29 => ⟨S8x4x2x128, .f32⟩
  | 30 => ⟨S8x4x2x128, .f32⟩
  | 31 => ⟨S8x4x2x128, .f32⟩
  | 32 => ⟨S8x4x2x128, .f32⟩
  | 33 => ⟨S8x4x2x128, .f32⟩
  | 34 => ⟨S_, .i32⟩
  | 35 => ⟨S_, .i32⟩
  | 36 => ⟨S_, .f32⟩
  | 37 => ⟨S8x4x2x128, .f32⟩
  | 38 => ⟨S8x4x2x128, .f32⟩
  | 39 => ⟨S_, .f32⟩
  | 40 => ⟨S8x4x2x128, .f32⟩
  | 41 => ⟨S8x4x2x128, .f32⟩
  | 42 => ⟨S8x4x2x128, .i32⟩
  | 43 => ⟨S8x4x2x64, .i32⟩
  | 44 => ⟨S8x4x2x64, .i32⟩
  | 45 => ⟨S_, .i32⟩
  | 46 => ⟨S8x4x2x64, .i32⟩
  | 47 => ⟨S8x4x2x64, .i32⟩
  | 48 => ⟨S8x4x2x64, .i32⟩
  | 49 => ⟨S8x4x2x64, .i8⟩
  | 50 => ⟨S8x4x2x128, .f32⟩
  | 51 => ⟨S_, .f32⟩
  | 52 => ⟨S8x4x2, .f32⟩
  | 53 => ⟨S8x4x2x1, .f32⟩
  | 54 => ⟨S_, .f32⟩
  | 55 => ⟨S8x4x2, .f32⟩
  | 56 => ⟨S8x4x2x1, .f32⟩
  | 57 => ⟨S8x4x2x1, .f32⟩
  | 58 => ⟨S_, .f32⟩
  | 59 => ⟨S8x4x2x1, .f32⟩
  | 60 => ⟨S8x4x2x1, .i1⟩
  | 61 => ⟨S_, .f32⟩
  | 62 => ⟨S8x4x2x1, .f32⟩
  | 63 => ⟨S8x4x2x1, .f32⟩
  | 64 => ⟨S_, .f32⟩
  | 65 => ⟨S8x4x2x1, .f32⟩
  | 66 => ⟨S8x4x2x1, .f32⟩
  | 67 => ⟨S8x4x2x128, .f32⟩
  | 68 => ⟨S8x4x2x128, .f32⟩
  | 69 => ⟨S8x4x2x128, .f32⟩
  | 70 => ⟨S8x4x2x128, .f32⟩
  | 71 => ⟨S8x4x2x128, .f32⟩
  | 72 => ⟨S_, .i32⟩
  | 73 => ⟨S_, .i32⟩
  | 74 => ⟨S_, .f32⟩
  | 75 => ⟨S8x4x2x128, .f32⟩
  | 76 => ⟨S8x4x2x128, .f32⟩
  | 77 => ⟨S_, .f32⟩
  | 78 => ⟨S8x4x2x128, .f32⟩
  | 79 => ⟨S8x4x2x128, .f32⟩
  | 80 => ⟨S8x4x2x128, .i32⟩
  | 81 => ⟨S8x4x2x64, .i32⟩
  | 82 => ⟨S8x4x2x64, .i32⟩
  | 83 => ⟨S_, .i32⟩
  | 84 => ⟨S8x4x2x64, .i32⟩
  | 85 => ⟨S8x4x2x64, .i32⟩
  | 86 => ⟨S8x4x2x64, .i32⟩
  | 87 => ⟨S8x4x2x64, .i8⟩
  | 88 => ⟨S8x508x32x2x128, .f32⟩
  | 89 => ⟨S8x16256x2x128, .f32⟩
  | 90 => ⟨S8x508x32x2x128, .f32⟩
  | 91 => ⟨S8x16256x2x128, .f32⟩
  | 92 => ⟨S8x16256x2x64, .i32⟩
  | 93 => ⟨S_, .i32⟩
  | 94 => ⟨S8x16256x2x64, .i32⟩
  | 95 => ⟨S8x16256x2x64, .i32⟩
  | 96 => ⟨S_, .i32⟩
  | 97 => ⟨S8x16256x2x64, .i32⟩
  | 98 => ⟨S8x16256x2x64, .i32⟩
  | 99 => ⟨S8x16256x2x64x1, .i32⟩
  | 100 => ⟨S8x16256x2x64x1, .i32⟩
  | 101 => ⟨S8x16256x2x64x2, .i32⟩
  | 102 => ⟨S8x16256x2x128, .i32⟩
  | 103 => ⟨S8x16256x2x128, .bf16⟩
  | 104 => ⟨S8x16256x2x128, .bf16⟩
  | 105 => ⟨S8x16256x2x128, .bf16⟩
  | 106 => ⟨S8x16256x2x128, .bf16⟩
  | 107 => ⟨S8x16256x2x128, .bf16⟩
  | 108 => ⟨S8x4x2x64, .i32⟩
  | 109 => ⟨S_, .i32⟩
  | 110 => ⟨S8x4x2x64, .i32⟩
  | 111 => ⟨S8x4x2x64, .i32⟩
  | 112 => ⟨S_, .i32⟩
  | 113 => ⟨S8x4x2x64, .i32⟩
  | 114 => ⟨S8x4x2x64, .i32⟩
  | 115 => ⟨S8x4x2x64x1, .i32⟩
  | 116 => ⟨S8x4x2x64x1, .i32⟩
  | 117 => ⟨S8x4x2x64x2, .i32⟩
  | 118 => ⟨S8x4x2x128, .i32⟩
  | 119 => ⟨S8x4x2x128, .bf16⟩
  | 120 => ⟨S8x1x2x128, .bf16⟩
  | 121 => ⟨S8x4x2x128, .bf16⟩
  | 122 => ⟨S8x4x2x128, .bf16⟩
  | 123 => ⟨S8x1x2x128, .bf16⟩
  | 124 => ⟨S8x4x2x128, .bf16⟩
  | 125 => ⟨S8x4x2x128, .bf16⟩
  | 126 => ⟨S8x16388x2x128, .bf16⟩
  | 127 => ⟨S8x16256x2x1, .f32⟩
  | _ => ⟨S8x4x4096, .bf16⟩

abbrev hbmTy0_1 (i : Nat) : BufTy := match i % 128 with
  | 0 => ⟨S8x16256x2x1, .f32⟩
  | 1 => ⟨S8x16256x2x64, .i32⟩
  | 2 => ⟨S_, .i32⟩
  | 3 => ⟨S8x16256x2x64, .i32⟩
  | 4 => ⟨S8x16256x2x64, .i32⟩
  | 5 => ⟨S_, .i32⟩
  | 6 => ⟨S8x16256x2x64, .i32⟩
  | 7 => ⟨S8x16256x2x64, .i32⟩
  | 8 => ⟨S8x16256x2x64x1, .i32⟩
  | 9 => ⟨S8x16256x2x64x1, .i32⟩
  | 10 => ⟨S8x16256x2x64x2, .i32⟩
  | 11 => ⟨S8x16256x2x128, .i32⟩
  | 12 => ⟨S8x16256x2x128, .bf16⟩
  | 13 => ⟨S8x16256x2x1, .bf16⟩
  | 14 => ⟨S8x16256x2x128, .bf16⟩
  | 15 => ⟨S8x16256x2x128, .bf16⟩
  | 16 => ⟨S8x16256x2x1, .bf16⟩
  | 17 => ⟨S8x16256x2x128, .bf16⟩
  | 18 => ⟨S8x16256x2x128, .bf16⟩
  | 19 => ⟨S8x4x2x64, .i32⟩
  | 20 => ⟨S_, .i32⟩
  | 21 => ⟨S8x4x2x64, .i32⟩
  | 22 => ⟨S8x4x2x64, .i32⟩
  | 23 => ⟨S_, .i32⟩
  | 24 => ⟨S8x4x2x64, .i32⟩
  | 25 => ⟨S8x4x2x64, .i32⟩
  | 26 => ⟨S8x4x2x64x1, .i32⟩
  | 27 => ⟨S8x4x2x64x1, .i32⟩
  | 28 => ⟨S8x4x2x64x2, .i32⟩
  | 29 => ⟨S8x4x2x128, .i32⟩
  | 30 => ⟨S8x4x2x128, .bf16⟩
  | 31 => ⟨S8x4x2x1, .bf16⟩
  | 32 => ⟨S8x4x2x128, .bf16⟩
  | 33 => ⟨S8x4x2x128, .bf16⟩
  | 34 => ⟨S8x4x2x1, .bf16⟩
  | 35 => ⟨S8x4x2x128, .bf16⟩
  | 36 => ⟨S8x4x2x128, .bf16⟩
  | 37 => ⟨S8x16388x2x128, .bf16⟩
  | 38 => ⟨S8x2x16388x4x16, .f32⟩
  | 39 => ⟨S8x2x16x4x16388, .f32⟩
  | 40 => ⟨S_, .f32⟩
  | 41 => ⟨S_, .f32⟩
  | 42 => ⟨S8x2x16x4x16388, .f32⟩
  | 43 => ⟨S8x2x16x4x16388, .f32⟩
  | 44 => ⟨S16388, .i32⟩
  | 45 => ⟨S1x16388, .i32⟩
  | 46 => ⟨S_, .i32⟩
  | 47 => ⟨S1x16388, .i32⟩
  | 48 => ⟨S1x16388, .i32⟩
  | 49 => ⟨S4, .i32⟩
  | 50 => ⟨S4x1, .i32⟩
  | 51 => ⟨S4x16388, .i32⟩
  | 52 => ⟨S4x16388, .i32⟩
  | 53 => ⟨S4x16388, .i1⟩
  | 54 => ⟨S_, .f32⟩
  | 55 => ⟨S_, .f32⟩
  | 56 => ⟨S8x2x16x4x16388, .i1⟩
  | 57 => ⟨S8x2x16x4x16388, .f32⟩
  | 58 => ⟨S8x2x16x4x16388, .f32⟩
  | 59 => ⟨S_, .f32⟩
  | 60 => ⟨S8x2x16x4, .f32⟩
  | 61 => ⟨S8x2x16x4x1, .f32⟩
  | 62 => ⟨S_, .f32⟩
  | 63 => ⟨S8x2x16x4x1, .f32⟩
  | 64 => ⟨S8x2x16x4x1, .f32⟩
  | 65 => ⟨S8x2x16x4x16388, .f32⟩
  | 66 => ⟨S8x2x16x4x16388, .f32⟩
  | 67 => ⟨S8x2x16x4x16388, .f32⟩
  | 68 => ⟨S_, .f32⟩
  | 69 => ⟨S8x2x16x4, .f32⟩
  | 70 => ⟨S8x2x16x4x1, .f32⟩
  | 71 => ⟨S8x2x16x4x16388, .bf16⟩
  | 72 => ⟨S8x2x16x4x128, .f32⟩
  | 73 => ⟨S8x2x16x4x128, .f32⟩
  | 74 => ⟨S8x2x16x4x128, .f32⟩
  | 75 => ⟨S8x2x16x4x128, .bf16⟩
  | 76 => ⟨S8x2x64x128, .bf16⟩
  | 77 => ⟨S8x2x4x64, .i8⟩
  | 78 => ⟨S8x2x1x128, .f32⟩
  | 79 => ⟨S8x2x1x128, .f32⟩
  | 80 => ⟨S8x2x4x64, .i8⟩
  | 81 => ⟨S8x2x4x1, .f32⟩
  | 82 => ⟨S8x2x4x128, .f32⟩
  | 83 => ⟨S8x2x4x1, .f32⟩
  | 84 => ⟨S8x2x4x128, .f32⟩
  | _ => ⟨S8x4x4096, .bf16⟩

abbrev hbmTy (i : Nat) : BufTy := match i / 128 with
  | 0 => hbmTy0_0 i
  | 1 => hbmTy0_1 i
  | _ => ⟨S8x4x4096, .bf16⟩

abbrev bufTy : (tb : Table) → Fin (tcTables nBuf tb) → BufTy
  | .hbm, ⟨i, _⟩ => hbmTy i
  | _, _ => ⟨S8x4x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_call3_v0 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_c_12 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_13 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_14 : Ref sig .tc := ⟨.hbm, 93, rfl⟩
abbrev main_v54 : Ref sig .tc := ⟨.hbm, 94, rfl⟩
abbrev main_v55 : Ref sig .tc := ⟨.hbm, 95, rfl⟩
abbrev main_c_15 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_16 : Ref sig .tc := ⟨.hbm, 109, rfl⟩
abbrev main_v68 : Ref sig .tc := ⟨.hbm, 110, rfl⟩
abbrev main_v69 : Ref sig .tc := ⟨.hbm, 111, rfl⟩
abbrev main_c_17 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_18 : Ref sig .tc := ⟨.hbm, 130, rfl⟩
abbrev main_v87 : Ref sig .tc := ⟨.hbm, 131, rfl⟩
abbrev main_v88 : Ref sig .tc := ⟨.hbm, 132, rfl⟩
abbrev main_c_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_20 : Ref sig .tc := ⟨.hbm, 148, rfl⟩
abbrev main_v103 : Ref sig .tc := ⟨.hbm, 149, rfl⟩
abbrev main_v104 : Ref sig .tc := ⟨.hbm, 150, rfl⟩
abbrev main_c_21 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_22 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_c_23 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_24 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v133 : Ref sig .tc := ⟨.hbm, 186, rfl⟩
abbrev main_cst_25 : Ref sig .tc := ⟨.hbm, 187, rfl⟩
abbrev main_v134 : Ref sig .tc := ⟨.hbm, 188, rfl⟩
abbrev main_v135 : Ref sig .tc := ⟨.hbm, 189, rfl⟩
abbrev main_cst_26 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_27 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩

abbrev nD : Nat := 1
abbrev τ : Topo := Topo.v7x

variable {F : FTy → Type} [FloatOps F]
-- ==== Proof.KernelRuns.lean ====
/- The kernel as compiled: its body's branch condition, its staging and scratch memrefs, and its frame from a run that
   states nothing of the outputs. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1200000 in
/-- The arguments end unchanged, from a run that states nothing of the outputs: a staged input array is one that no
    window writes back, any other array is one that no window stages. -/
theorem frame_of_forgetting (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1x64x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x64x16256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x508x2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x508x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x16256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x16256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x16256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x4x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x4x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x64 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x64x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x4x64 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x4x64 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x4x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x4x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S2x64x16256 .f32 := Memref.whole cc0_scratch0
abbrev scM0_1 : Memref sig .tc .vmem S2x64x256 .f32 := Memref.whole cc0_scratch1
abbrev scM0_2 : Memref sig .tc .vmem S2x64x128 .f32 := Memref.whole cc0_scratch2

/-- The invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRunA.lean ====
/- The body's run at the first point, of the kernel as compiled, with nothing stated of what it stores. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2904000 in
/-- The body's triple at the first point: from the inputs' staging buffers at their contents and the outputs' at anything, the body
    runs and hands the inputs' back as they were, the outputs' and the scratch at some contents. -/
theorem kernelRun0_A (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_kivi4_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_kivi4_attention_eq_skeleton]; unfold cc0_kivi4_attention_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelRunB.lean ====
/- The body's run at a later point, of the kernel as compiled, with nothing stated of what it stores. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2868000 in
/-- The body's triple at a later point: from the inputs' staging buffers at their contents and the outputs' at anything, the body
    runs and hands the inputs' back as they were, the outputs' and the scratch at some contents. -/
theorem kernelRun0_B (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_kivi4_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_kivi4_attention_eq_skeleton]; unfold cc0_kivi4_attention_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.lean ====
/- The frame of the kernel as compiled: it runs to its end, and leaves its arguments as they were. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows: nothing is stated of what they hold. -/
def forgets0 : Fin 20 → Bool := fun w => w.val == 13 || w.val == 14 || w.val == 15 || w.val == 16 || w.val == 17 || w.val == 18 || w.val == 19

/-- The pipeline's proof data on a core: the arrays as the region finds them, each input's buffer at its block after the
    body, the outputs unnamed, the scratch at anything; an array that several windows stage is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  have hN : t.val < 17 := lt_of_lt_of_eq t.isLt (show cfg0.N = 17 from N_0)
  by_cases h0 : t.val % 17 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- The run: the input arrays end as they were, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forgetting m ρ (fun c => (dats m 0 c).toRForget forgets0) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Gen

end
-- ==== Proof.Words.lean ====
/- The kernel body's arithmetic on one chunk, named, and what each named term is worth at an index. -/
module

public import proofs.«01_k».proof.KernelIdeal
public import proofs.«01_k».proof.Proof.Gen.KernelIdeal
public import Idealize.ShloMosaic.Lib.Pointwise

@[expose] public section

noncomputable section

namespace Cert.KernelIdeal.Gen

open Idealize.ShloMosaic

section Words
variable {F : FTy → Type} [FloatOps F] [Named F]

/-- A chunk's packed codes as numbers: row `d` is half `d % 2` of packed row `d / 2`. -/
def unpackW (x : Vec F S1x1x64x512 .i8) : FVec F S128x512 .bf16 :=
  sitofp .bf16 (shapeCast S128x512 (concatenate S64x2x512 1
    [⟨S64x1x512, shapeCast S64x1x512 (andi (extui 32 (shapeCast S64x512 x shapeCasts_S1x1x64x512_S64x512) natLt_8_32) (broadcast S64x512 15#32)) shapeCasts_S64x512_S64x1x512⟩,
     ⟨S64x1x512, shapeCast S64x1x512 (shrsi (extui 32 (shapeCast S64x512 x shapeCasts_S1x1x64x512_S64x512) natLt_8_32) (broadcast S64x512 4#32)) shapeCasts_S64x512_S64x1x512⟩]
    concatenates_S64x1x512_S64x1x512_S64x2x512_d1) shapeCasts_S64x2x512_S128x512)

/-- A group's number for every token of the group, key channels first. -/
def repeatW (x : Vec F S1x16x1x128 .f32) : FVec F S128x512 .bf16 :=
  transpose S128x512 [1, 0] (shapeCast S512x128 (broadcastTo S16x32x128 (shapeCast S16x1x128
    (truncf .bf16 (shapeCast S16x128 x shapeCasts_S1x16x1x128_S16x128) bitsLt_bf16_f32)
    shapeCasts_S16x128_S16x1x128) broadcasts_S16x1x128_S16x32x128) shapeCasts_S16x32x128_S512x128) transposes_S512x128_p1_0_S128x512

/-- The queries' scores of a chunk. -/
def scoreW (q : FVec F S64x128 .bf16) (ks kz : Vec F S1x16x1x128 .f32) (kc : Vec F S1x1x64x512 .i8) : FVec F S64x512 .f32 :=
  matmul dot_S64x128_S128x512_S64x512_1_0_0_1_n_n none q (addf (mulf (unpackW kc) (repeatW ks)) (repeatW kz))
    (constant S64x512 .f32 0x00000000#32)

/-- The largest of a chunk's four lane tiles. -/
def laneMaxW (s : FVec F S64x512 .f32) : FVec F S64x128 .f32 :=
  maximumf (maximumf (maximumf (extractStridedSlice S64x128 ![0, 0] s slices_S64x512_o0_0_S64x128)
    (extractStridedSlice S64x128 ![0, 128] s slices_S64x512_o0_128_S64x128))
    (extractStridedSlice S64x128 ![0, 256] s slices_S64x512_o0_256_S64x128))
    (extractStridedSlice S64x128 ![0, 384] s slices_S64x512_o0_384_S64x128)

/-- The sum of a chunk's four lane tiles. -/
def laneSumW (s : FVec F S64x512 .f32) : FVec F S64x128 .f32 :=
  addf (addf (addf (extractStridedSlice S64x128 ![0, 0] s slices_S64x512_o0_0_S64x128)
    (extractStridedSlice S64x128 ![0, 128] s slices_S64x512_o0_128_S64x128))
    (extractStridedSlice S64x128 ![0, 256] s slices_S64x512_o0_256_S64x128))
    (extractStridedSlice S64x128 ![0, 384] s slices_S64x512_o0_384_S64x128)

/-- A chunk's weights from the rows' largest scores. -/
def probW (m : FVec F S64x128 .f32) (s : Vec F S1x64x512 .f32) : FVec F S64x512 .f32 :=
  exp2 (mulf (subf (shapeCast S64x512 s shapeCasts_S1x64x512_S64x512)
    (concatenate S64x512 1 [⟨S64x128, m⟩, ⟨S64x128, m⟩, ⟨S64x128, m⟩, ⟨S64x128, m⟩] concatenates_S64x128_S64x128_S64x128_S64x128_S64x512_d1))
    (broadcast S64x512 (Named.named κ "exp2_scale" 0x3E0293EE#32)))

/-- A token's number for every value channel. -/
def rowW (x : Vec F S1x1x512 .f32) : FVec F S128x512 .bf16 :=
  broadcastTo S128x512 (truncf .bf16 (shapeCast S1x512 x shapeCasts_S1x1x512_S1x512) bitsLt_bf16_f32) broadcasts_S1x512_S128x512

/-- A chunk's weighted sum of values. -/
def accW (p : FVec F S64x512 .f32) (vs vz : Vec F S1x1x512 .f32) (vc : Vec F S1x1x64x512 .i8) : FVec F S64x128 .f32 :=
  matmul dot_S64x512_S128x512_S64x128_1_1_0_0_n_n none (truncf .bf16 p bitsLt_bf16_f32)
    (addf (mulf (unpackW vc) (rowW vs)) (rowW vz)) (constant S64x128 .f32 0x00000000#32)

/-! The last, shorter chunk. -/

/-- The last chunk's packed codes as numbers: row `d` is half `d % 2` of packed row `d / 2`. -/
def unpackT (x : Vec F S1x1x64x384 .i8) : FVec F S128x384 .bf16 :=
  sitofp .bf16 (shapeCast S128x384 (concatenate S64x2x384 1
    [⟨S64x1x384, shapeCast S64x1x384 (andi (extui 32 (shapeCast S64x384 x shapeCasts_S1x1x64x384_S64x384) natLt_8_32) (broadcast S64x384 15#32)) shapeCasts_S64x384_S64x1x384⟩,
     ⟨S64x1x384, shapeCast S64x1x384 (shrsi (extui 32 (shapeCast S64x384 x shapeCasts_S1x1x64x384_S64x384) natLt_8_32) (broadcast S64x384 4#32)) shapeCasts_S64x384_S64x1x384⟩]
    concatenates_S64x1x384_S64x1x384_S64x2x384_d1) shapeCasts_S64x2x384_S128x384)

/-- A group's number for every token of the group, key channels first. -/
def repeatT (x : Vec F S1x12x1x128 .f32) : FVec F S128x384 .bf16 :=
  transpose S128x384 [1, 0] (shapeCast S384x128 (broadcastTo S12x32x128 (shapeCast S12x1x128
    (truncf .bf16 (shapeCast S12x128 x shapeCasts_S1x12x1x128_S12x128) bitsLt_bf16_f32)
    shapeCasts_S12x128_S12x1x128) broadcasts_S12x1x128_S12x32x128) shapeCasts_S12x32x128_S384x128) transposes_S384x128_p1_0_S128x384

/-- The queries' scores of the last chunk. -/
def scoreT (q : FVec F S64x128 .bf16) (ks kz : Vec F S1x12x1x128 .f32) (kc : Vec F S1x1x64x384 .i8) : FVec F S64x384 .f32 :=
  matmul dot_S64x128_S128x384_S64x384_1_0_0_1_n_n none q (addf (mulf (unpackT kc) (repeatT ks)) (repeatT kz))
    (constant S64x384 .f32 0x00000000#32)

/-- The largest of the last chunk's three lane tiles. -/
def laneMaxT (s : FVec F S64x384 .f32) : FVec F S64x128 .f32 :=
  maximumf (maximumf (extractStridedSlice S64x128 ![0, 0] s slices_S64x384_o0_0_S64x128)
    (extractStridedSlice S64x128 ![0, 128] s slices_S64x384_o0_128_S64x128))
    (extractStridedSlice S64x128 ![0, 256] s slices_S64x384_o0_256_S64x128)

/-- The sum of the last chunk's three lane tiles. -/
def laneSumT (s : FVec F S64x384 .f32) : FVec F S64x128 .f32 :=
  addf (addf (extractStridedSlice S64x128 ![0, 0] s slices_S64x384_o0_0_S64x128)
    (extractStridedSlice S64x128 ![0, 128] s slices_S64x384_o0_128_S64x128))
    (extractStridedSlice S64x128 ![0, 256] s slices_S64x384_o0_256_S64x128)

/-- The last chunk's weights from the rows' largest scores. -/
def probT (m : FVec F S64x128 .f32) (s : Vec F S1x64x384 .f32) : FVec F S64x384 .f32 :=
  exp2 (mulf (subf (shapeCast S64x384 s shapeCasts_S1x64x384_S64x384)
    (concatenate S64x384 1 [⟨S64x128, m⟩, ⟨S64x128, m⟩, ⟨S64x128, m⟩] concatenates_S64x128_S64x128_S64x128_S64x384_d1))
    (broadcast S64x384 (Named.named κ "exp2_scale" 0x3E0293EE#32)))

/-- A token's number for every value channel. -/
def rowT (x : Vec F S1x1x384 .f32) : FVec F S128x384 .bf16 :=
  broadcastTo S128x384 (truncf .bf16 (shapeCast S1x384 x shapeCasts_S1x1x384_S1x384) bitsLt_bf16_f32) broadcasts_S1x384_S128x384

/-- The last chunk's weighted sum of values. -/
def accT (p : FVec F S64x384 .f32) (vs vz : Vec F S1x1x384 .f32) (vc : Vec F S1x1x64x384 .i8) : FVec F S64x128 .f32 :=
  matmul dot_S64x384_S128x384_S64x128_1_1_0_0_n_n none (truncf .bf16 p bitsLt_bf16_f32)
    (addf (mulf (unpackT vc) (rowT vs)) (rowT vz)) (constant S64x128 .f32 0x00000000#32)

end Words

/-- Half `h` of a packed byte, as a word. -/
def nib (b : BitVec 8) (h : ℕ) : BitVec 32 :=
  if h = 0 then IntOp.andi (b.setWidth 32) 15#32 else IntOp.shrsi .vector (b.setWidth 32) 4#32

theorem unpackW_apply (x : Vec Ideal S1x1x64x512 .i8) (d : Fin 128) (t : Fin 512) :
    unpackW x (ix2 d t) = FloatOps.sitofp (F := Ideal) .bf16 (nib (x (ix4 0 0 ⟨d.val / 2, by omega⟩ t)) (d.val % 2)) := by
  pointwise [unpackW]
  unfold nib
  by_cases h : d.val % 2 = 0
  · rw [dif_pos (by omega), if_pos h]
  · rw [dif_neg (by omega), if_neg h]

theorem repeatW_apply (x : Vec Ideal S1x16x1x128 .f32) (d : Fin 128) (t : Fin 512) :
    repeatW x (ix2 d t) = x (ix4 0 ⟨t.val / 32, by omega⟩ 0 d) := by
  pointwise [repeatW]

theorem scoreW_apply (q : FVec Ideal S64x128 .bf16) (ks kz kc) (r : Fin 64) (t : Fin 512) :
    scoreW q ks kz kc (ix2 r t) = ∑ d : Fin 128, q (ix2 r d) * (unpackW kc (ix2 d t) * repeatW ks (ix2 d t) + repeatW kz (ix2 d t)) := by
  pointwise [scoreW, dot_S64x128_S128x512_S64x512_1_0_0_1_n_n]

theorem laneMaxW_apply (s : FVec Ideal S64x512 .f32) (r : Fin 64) (l : Fin 128) :
    laneMaxW s (ix2 r l) = max (max (max (s (ix2 r ⟨l.val, by omega⟩)) (s (ix2 r ⟨128 + l.val, by omega⟩))) (s (ix2 r ⟨256 + l.val, by omega⟩)))
      (s (ix2 r ⟨384 + l.val, by omega⟩)) := by
  pointwise [laneMaxW]

theorem laneSumW_apply (s : FVec Ideal S64x512 .f32) (r : Fin 64) (l : Fin 128) :
    laneSumW s (ix2 r l) = s (ix2 r ⟨l.val, by omega⟩) + (s (ix2 r ⟨128 + l.val, by omega⟩)) + (s (ix2 r ⟨256 + l.val, by omega⟩)) +
      (s (ix2 r ⟨384 + l.val, by omega⟩)) := by
  pointwise [laneSumW]

theorem probW_apply (m : FVec Ideal S64x128 .f32) (s : Vec Ideal S1x64x512 .f32) (r : Fin 64) (t : Fin 512) :
    probW m s (ix2 r t) = Ideal.exp2 ((s (ix3 0 r t) - m (ix2 r ⟨t.val % 128, by omega⟩)) * ((((Real.sqrt 128)⁻¹ * (Real.log 2)⁻¹ : ℝ) : EReal))) := by
  pointwise [probW]
  rw [IdealRules.named_const.ideal_named_scalar _ _ _ _ rfl]
  refine congrArg Ideal.exp2 (congrArg (· * _) (congrArg (s (ix3 0 r t) - ·) ?_))
  split_ifs <;> exact congrArg m (congrArg (ix2 r) (Fin.ext (by simp only []; omega)))

theorem rowW_apply (x : Vec Ideal S1x1x512 .f32) (d : Fin 128) (t : Fin 512) :
    rowW x (ix2 d t) = x (ix3 0 0 t) := by
  pointwise [rowW]

theorem accW_apply (p : FVec Ideal S64x512 .f32) (vs vz vc) (r : Fin 64) (d : Fin 128) :
    accW p vs vz vc (ix2 r d) = ∑ t : Fin 512, p (ix2 r t) * (unpackW vc (ix2 d t) * rowW vs (ix2 d t) + rowW vz (ix2 d t)) := by
  pointwise [accW, dot_S64x512_S128x512_S64x128_1_1_0_0_n_n]

theorem unpackT_apply (x : Vec Ideal S1x1x64x384 .i8) (d : Fin 128) (t : Fin 384) :
    unpackT x (ix2 d t) = FloatOps.sitofp (F := Ideal) .bf16 (nib (x (ix4 0 0 ⟨d.val / 2, by omega⟩ t)) (d.val % 2)) := by
  pointwise [unpackT]
  unfold nib
  by_cases h : d.val % 2 = 0
  · rw [dif_pos (by omega), if_pos h]
  · rw [dif_neg (by omega), if_neg h]

theorem repeatT_apply (x : Vec Ideal S1x12x1x128 .f32) (d : Fin 128) (t : Fin 384) :
    repeatT x (ix2 d t) = x (ix4 0 ⟨t.val / 32, by omega⟩ 0 d) := by
  pointwise [repeatT]

theorem scoreT_apply (q : FVec Ideal S64x128 .bf16) (ks kz kc) (r : Fin 64) (t : Fin 384) :
    scoreT q ks kz kc (ix2 r t) = ∑ d : Fin 128, q (ix2 r d) * (unpackT kc (ix2 d t) * repeatT ks (ix2 d t) + repeatT kz (ix2 d t)) := by
  pointwise [scoreT, dot_S64x128_S128x384_S64x384_1_0_0_1_n_n]

theorem laneMaxT_apply (s : FVec Ideal S64x384 .f32) (r : Fin 64) (l : Fin 128) :
    laneMaxT s (ix2 r l) = max (max (s (ix2 r ⟨l.val, by omega⟩)) (s (ix2 r ⟨128 + l.val, by omega⟩))) (s (ix2 r ⟨256 + l.val, by omega⟩)) := by
  pointwise [laneMaxT]

theorem laneSumT_apply (s : FVec Ideal S64x384 .f32) (r : Fin 64) (l : Fin 128) :
    laneSumT s (ix2 r l) = s (ix2 r ⟨l.val, by omega⟩) + (s (ix2 r ⟨128 + l.val, by omega⟩)) + (s (ix2 r ⟨256 + l.val, by omega⟩)) := by
  pointwise [laneSumT]

theorem probT_apply (m : FVec Ideal S64x128 .f32) (s : Vec Ideal S1x64x384 .f32) (r : Fin 64) (t : Fin 384) :
    probT m s (ix2 r t) = Ideal.exp2 ((s (ix3 0 r t) - m (ix2 r ⟨t.val % 128, by omega⟩)) * ((((Real.sqrt 128)⁻¹ * (Real.log 2)⁻¹ : ℝ) : EReal))) := by
  pointwise [probT]
  rw [IdealRules.named_const.ideal_named_scalar _ _ _ _ rfl]
  refine congrArg Ideal.exp2 (congrArg (· * _) (congrArg (s (ix3 0 r t) - ·) ?_))
  split_ifs <;> exact congrArg m (congrArg (ix2 r) (Fin.ext (by simp only []; omega)))

theorem rowT_apply (x : Vec Ideal S1x1x384 .f32) (d : Fin 128) (t : Fin 384) :
    rowT x (ix2 d t) = x (ix3 0 0 t) := by
  pointwise [rowT]

theorem accT_apply (p : FVec Ideal S64x384 .f32) (vs vz vc) (r : Fin 64) (d : Fin 128) :
    accT p vs vz vc (ix2 r d) = ∑ t : Fin 384, p (ix2 r t) * (unpackT vc (ix2 d t) * rowT vs (ix2 d t) + rowT vz (ix2 d t)) := by
  pointwise [accT, dot_S64x384_S128x384_S64x128_1_1_0_0_n_n]

end Cert.KernelIdeal.Gen

end
-- ==== Proof.Chain.lean ====
/- The body's chunk loops as chains, over the families of what its accesses read. -/
module

public import proofs.«01_k».proof.Proof.Gen.KernelIdeal.Skeleton
public import proofs.«01_k».proof.Proof.Words
public import Idealize.ShloMosaic.Lib.Pipeline.Value

@[expose] public section

noncomputable section

namespace Cert.KernelIdeal.Gen

open Idealize.ShloMosaic

/-! The accesses' offsets, chunk by chunk. -/

/-- Where the full chunks of the key scales and offsets are read. -/
def offK (i : grid0.Coords) : Fin 31 → Fin 4 → ℕ :=
  ![k0_off1 i, k0_off3 i, k0_off5 i, k0_off7 i, k0_off9 i, k0_off11 i, k0_off13 i, k0_off15 i, k0_off17 i, k0_off19 i, k0_off21 i, k0_off23 i, k0_off25 i, k0_off27 i, k0_off29 i, k0_off31 i, k0_off33 i, k0_off35 i, k0_off37 i, k0_off39 i, k0_off41 i, k0_off43 i, k0_off45 i, k0_off47 i, k0_off49 i, k0_off51 i, k0_off53 i, k0_off55 i, k0_off57 i, k0_off59 i, k0_off61 i]

/-- Where the full chunks of the scores are stored. -/
def offS (i : grid0.Coords) : Fin 31 → Fin 3 → ℕ :=
  ![k0_off2 i, k0_off4 i, k0_off6 i, k0_off8 i, k0_off10 i, k0_off12 i, k0_off14 i, k0_off16 i, k0_off18 i, k0_off20 i, k0_off22 i, k0_off24 i, k0_off26 i, k0_off28 i, k0_off30 i, k0_off32 i, k0_off34 i, k0_off36 i, k0_off38 i, k0_off40 i, k0_off42 i, k0_off44 i, k0_off46 i, k0_off48 i, k0_off50 i, k0_off52 i, k0_off54 i, k0_off56 i, k0_off58 i, k0_off60 i, k0_off62 i]

/-- Where the full chunks of the scores are read. -/
def offL (i : grid0.Coords) : Fin 31 → Fin 3 → ℕ :=
  ![k0_off69 i, k0_off71 i, k0_off73 i, k0_off75 i, k0_off77 i, k0_off79 i, k0_off81 i, k0_off83 i, k0_off85 i, k0_off87 i, k0_off89 i, k0_off91 i, k0_off93 i, k0_off95 i, k0_off97 i, k0_off99 i, k0_off101 i, k0_off103 i, k0_off105 i, k0_off107 i, k0_off109 i, k0_off111 i, k0_off113 i, k0_off115 i, k0_off117 i, k0_off119 i, k0_off121 i, k0_off123 i, k0_off125 i, k0_off127 i, k0_off129 i]

/-- Where the full chunks of the value scales and offsets are read. -/
def offV (i : grid0.Coords) : Fin 31 → Fin 3 → ℕ :=
  ![k0_off70 i, k0_off72 i, k0_off74 i, k0_off76 i, k0_off78 i, k0_off80 i, k0_off82 i, k0_off84 i, k0_off86 i, k0_off88 i, k0_off90 i, k0_off92 i, k0_off94 i, k0_off96 i, k0_off98 i, k0_off100 i, k0_off102 i, k0_off104 i, k0_off106 i, k0_off108 i, k0_off110 i, k0_off112 i, k0_off114 i, k0_off116 i, k0_off118 i, k0_off120 i, k0_off122 i, k0_off124 i, k0_off126 i, k0_off128 i, k0_off130 i]

theorem offK_eq (i : grid0.Coords) : ∀ k : Fin 31, offK i k = ![0, 16 * k.val, (min (i 0).val 15) % 2, 0] := by
  revert i; decide +kernel

theorem offS_eq (i : grid0.Coords) : ∀ k : Fin 31, offS i k = ![(i 0).val % 2, 0, 512 * k.val] := by
  revert i; decide +kernel

theorem offL_eq (i : grid0.Coords) : ∀ k : Fin 31, offL i k = ![1 - (i 0).val % 2, 0, 512 * k.val] := by
  revert i; decide +kernel

theorem offV_eq (i : grid0.Coords) : ∀ k : Fin 31, offV i k = ![0, ((i 0).val - 1) % 2, 512 * k.val] := by
  revert i; decide +kernel

theorem offK_inb (i : grid0.Coords) (k : Fin 31) (a : Fin 4) : offK i k a + S1x16x1x128.size a ≤ S1x508x2x128.size a := by
  rw [offK_eq]; revert a; have := k.isLt
  simp only [Fin.forall_fin_succ]; simp [S1x16x1x128, S1x508x2x128]; omega

theorem offS_inb (i : grid0.Coords) (k : Fin 31) (a : Fin 3) : offS i k a + S1x64x512.size a ≤ S2x64x16256.size a := by
  rw [offS_eq]; revert a; have := k.isLt
  simp only [Fin.forall_fin_succ]; simp [S1x64x512, S2x64x16256]; omega

theorem offL_inb (i : grid0.Coords) (k : Fin 31) (a : Fin 3) : offL i k a + S1x64x512.size a ≤ S2x64x16256.size a := by
  rw [offL_eq]; revert a; have := k.isLt
  simp only [Fin.forall_fin_succ]; simp [S1x64x512, S2x64x16256]; omega

theorem offV_inb (i : grid0.Coords) (k : Fin 31) (a : Fin 3) : offV i k a + S1x1x512.size a ≤ S1x2x16256.size a := by
  rw [offV_eq]; revert a; have := k.isLt
  simp only [Fin.forall_fin_succ]; simp [S1x1x512, S1x2x16256]; omega

theorem offC_inb (k : Fin 31) (a : Fin 4) : (![0, 0, 0, 512 * k.val] : Fin 4 → ℕ) a + S1x1x64x512.size a ≤ S1x1x64x16256.size a := by
  revert a; have := k.isLt
  simp only [Fin.forall_fin_succ]; simp [S1x1x64x512, S1x1x64x16256]; omega

section Chain
variable {F : FTy → Type} [FloatOps F] [Named F]

/-! What the accesses of the full chunks read. -/

def ldK (i : grid0.Coords) (arg : Memref sig .tc .vmem S1x508x2x128 .f32) (harg : arg.IsWhole) (x : Vec F S1x508x2x128 .f32)
    (k : Fin 31) : Vec F S1x16x1x128 .f32 :=
  View.readAt (Elt F) arg.view (Rect.unit (s := S1x508x2x128) (offK i k) S1x16x1x128.size (offK_inb i k)).toLoadRect (harg.unread x)

def ldC (arg : Memref sig .tc .vmem S1x1x64x16256 .i8) (harg : arg.IsWhole) (x : Vec F S1x1x64x16256 .i8)
    (k : Fin 31) : Vec F S1x1x64x512 .i8 :=
  View.readAt (Elt F) arg.view (Rect.unit (s := S1x1x64x16256) ![0, 0, 0, 512 * k.val] S1x1x64x512.size (offC_inb k)).toLoadRect (harg.unread x)

def ldV (i : grid0.Coords) (arg : Memref sig .tc .vmem S1x2x16256 .f32) (harg : arg.IsWhole) (x : Vec F S1x2x16256 .f32)
    (k : Fin 31) : Vec F S1x1x512 .f32 :=
  View.readAt (Elt F) arg.view (Rect.unit (s := S1x2x16256) (offV i k) S1x1x512.size (offV_inb i k)).toLoadRect (harg.unread x)

def ldS (i : grid0.Coords) (arg : Memref sig .tc .vmem S2x64x16256 .f32) (f : arg.view.ty.Contents (Elt F))
    (k : Fin 31) : Vec F S1x64x512 .f32 :=
  View.readAt (Elt F) arg.view (Rect.unit (s := S2x64x16256) (offL i k) S1x64x512.size (offL_inb i k)).toLoadRect f

/-- `op` over the first `n` members of a family, from `z`. -/
def chain (op : FVec F S64x128 .f32 → FVec F S64x128 .f32 → FVec F S64x128 .f32) (z : FVec F S64x128 .f32)
    (f : Fin 31 → FVec F S64x128 .f32) : (n : ℕ) → n ≤ 31 → FVec F S64x128 .f32
  | 0, _ => z
  | n + 1, h => op (chain op z f n (Nat.le_of_succ_le h)) (f ⟨n, h⟩)

/-- The pieces the first `n` chunks of scores are stored as, over `base`. -/
def pcs (i : grid0.Coords) (s : Fin 31 → FVec F S64x512 .f32) (base : List (View.Piece (Elt F) S2x64x16256 .f32)) :
    (n : ℕ) → n ≤ 31 → List (View.Piece (Elt F) S2x64x16256 .f32)
  | 0, _ => base
  | n + 1, h => ⟨Rect.unit (s := S2x64x16256) (offS i ⟨n, h⟩) S1x64x512.size (offS_inb i ⟨n, h⟩),
      shapeCast S1x64x512 (s ⟨n, h⟩) shapeCasts_S64x512_S1x64x512⟩ :: pcs i s base n (Nat.le_of_succ_le h)

/-- The scores' pieces, the last chunk's on top. -/
def sPcs (i : grid0.Coords) (s : Fin 31 → FVec F S64x512 .f32) (sT : FVec F S64x384 .f32)
    (base : List (View.Piece (Elt F) S2x64x16256 .f32)) : List (View.Piece (Elt F) S2x64x16256 .f32) :=
  ⟨Rect.unit (s := S2x64x16256) (k0_off64 i) S1x64x384.size (k0_off64_inb i), shapeCast S1x64x384 sT shapeCasts_S64x384_S1x64x384⟩ ::
    pcs i s base 31 (Nat.le_refl 31)

/-- The running maxima of the scores, lane by lane, once every chunk is in. -/
def maxW (s : Fin 31 → FVec F S64x512 .f32) (sT : FVec F S64x384 .f32) : FVec F S64x128 .f32 :=
  maximumf (chain maximumf (broadcast S64x128 (Scalar.ofBits .f32 0xF149F2CA#32)) (fun k => laneMaxW (s k)) 31 (Nat.le_refl 31)) (laneMaxT sT)

/-- The output block, from the rows' maxima, the scores, and the values. -/
def yW (mx : Vec F S1x64x128 .f32) (s : Fin 31 → Vec F S1x64x512 .f32) (sT : Vec F S1x64x384 .f32)
    (vs vz : Fin 31 → Vec F S1x1x512 .f32) (vc : Fin 31 → Vec F S1x1x64x512 .i8) (vsT vzT : Vec F S1x1x384 .f32)
    (vcT : Vec F S1x1x64x384 .i8) (vn : Vec F S1x1x4x128 .bf16) (st sn : Vec F S1x64x128 .f32) (vt : Vec F S1x1x128x128 .bf16) :
    FVec F S1x1x64x128 .bf16 :=
  k0_pay1 (k0_pay171 (k0_pay170 mx))
    (addf (chain addf (broadcast S64x128 (Scalar.ofBits .f32 0x00000000#32)) (fun k => laneSumW (probW (k0_pay171 (k0_pay170 mx)) (s k))) 31 (Nat.le_refl 31))
      (laneSumT (probT (k0_pay171 (k0_pay170 mx)) sT)))
    (addf (chain addf (broadcast S64x128 (Scalar.ofBits .f32 0x00000000#32))
        (fun k => accW (probW (k0_pay171 (k0_pay170 mx)) (s k)) (vs k) (vz k) (vc k)) 31 (Nat.le_refl 31))
      (accT (probT (k0_pay171 (k0_pay170 mx)) sT) vsT vzT vcT))
    (k0_pay318 (k0_pay311 vn) (k0_pay312 vn) (k0_pay313 vn) (Scalar.ofBits .f32 0x00000000#32) (Scalar.ofBits .f32 0x41700000#32))
    (k0_pay319 (k0_pay171 (k0_pay170 mx)) st) sn vt

end Chain

end Cert.KernelIdeal.Gen

end
-- ==== Proof.Loads.lean ====
/- What the body's accesses read, and what it stores, in the chunk loops' words. -/
module

public import proofs.«01_k».proof.Proof.Chain

@[expose] public section

set_option maxRecDepth 16384
set_option maxHeartbeats 8000000

noncomputable section

namespace Cert.KernelIdeal.Gen

open Idealize.ShloMosaic

/-! The loads and words of the run, over whole staging memrefs. -/

section Loads
variable {F : FTy → Type} [FloatOps F] [Named F]

def qW (arg : Memref sig .tc .vmem S1x1x64x128 .bf16) (harg : arg.IsWhole) (x : Vec F S1x1x64x128 .bf16) : FVec F S64x128 .bf16 :=
  shapeCast S64x128 (View.readAt (Elt F) arg.view (Rect.unit (s := S1x1x64x128) ![0, 0, 0, 0] S1x1x64x128.size inb_S1x1x64x128_S1x1x64x128_0_0_0_0).toLoadRect (harg.unread x)) shapeCasts_S1x1x64x128_S64x128

def ldN (arg : Memref sig .tc .vmem S1x1x4x128 .bf16) (harg : arg.IsWhole) (x : Vec F S1x1x4x128 .bf16) : Vec F S1x1x4x128 .bf16 :=
  View.readAt (Elt F) arg.view (Rect.unit (s := S1x1x4x128) ![0, 0, 0, 0] S1x1x4x128.size inb_S1x1x4x128_S1x1x4x128_0_0_0_0).toLoadRect (harg.unread x)

def ldT (arg : Memref sig .tc .vmem S1x1x128x128 .bf16) (harg : arg.IsWhole) (x : Vec F S1x1x128x128 .bf16) : Vec F S1x1x128x128 .bf16 :=
  View.readAt (Elt F) arg.view (Rect.unit (s := S1x1x128x128) ![0, 0, 0, 0] S1x1x128x128.size inb_S1x1x128x128_S1x1x128x128_0_0_0_0).toLoadRect (harg.unread x)

def ldPk (arg : Memref sig .tc .vmem S128x64 .bf16) (harg : arg.IsWhole) (x : Vec F S128x64 .bf16) : Vec F S128x64 .bf16 :=
  View.readAt (Elt F) arg.view (Rect.unit (s := S128x64) ![0, 0] S128x64.size inb_S128x64_S128x64_0_0).toLoadRect (harg.unread x)

def ldKT (i : grid0.Coords) (arg : Memref sig .tc .vmem S1x508x2x128 .f32) (harg : arg.IsWhole) (x : Vec F S1x508x2x128 .f32) : Vec F S1x12x1x128 .f32 :=
  View.readAt (Elt F) arg.view (Rect.unit (s := S1x508x2x128) (k0_off63 i) S1x12x1x128.size (k0_off63_inb i)).toLoadRect (harg.unread x)

def ldCT (arg : Memref sig .tc .vmem S1x1x64x16256 .i8) (harg : arg.IsWhole) (x : Vec F S1x1x64x16256 .i8) : Vec F S1x1x64x384 .i8 :=
  View.readAt (Elt F) arg.view (Rect.unit (s := S1x1x64x16256) ![0, 0, 0, 15872] S1x1x64x384.size inb_S1x1x64x16256_S1x1x64x384_0_0_0_15872).toLoadRect (harg.unread x)

def ldVT (i : grid0.Coords) (arg : Memref sig .tc .vmem S1x2x16256 .f32) (harg : arg.IsWhole) (x : Vec F S1x2x16256 .f32) : Vec F S1x1x384 .f32 :=
  View.readAt (Elt F) arg.view (Rect.unit (s := S1x2x16256) (k0_off132 i) S1x1x384.size (k0_off132_inb i)).toLoadRect (harg.unread x)

def ldST (i : grid0.Coords) (arg : Memref sig .tc .vmem S2x64x16256 .f32) (f : arg.view.ty.Contents (Elt F)) : Vec F S1x64x384 .f32 :=
  View.readAt (Elt F) arg.view (Rect.unit (s := S2x64x16256) (k0_off131 i) S1x64x384.size (k0_off131_inb i)).toLoadRect f

def ldM (i : grid0.Coords) (arg : Memref sig .tc .vmem S2x64x128 .f32) (f : arg.view.ty.Contents (Elt F)) : Vec F S1x64x128 .f32 :=
  View.readAt (Elt F) arg.view (Rect.unit (s := S2x64x128) (k0_off68 i) S1x64x128.size (k0_off68_inb i)).toLoadRect f

def ldE (off : Fin 3 → ℕ) (inb : ∀ a, off a + S1x64x128.size a ≤ S2x64x256.size a) (arg : Memref sig .tc .vmem S2x64x256 .f32)
    (f : arg.view.ty.Contents (Elt F)) : Vec F S1x64x128 .f32 :=
  View.readAt (Elt F) arg.view (Rect.unit (s := S2x64x256) off S1x64x128.size inb).toLoadRect f

/-- The full chunks' scores. -/
def scA (i : grid0.Coords) (arg1 : Memref sig .tc .vmem S1x1x64x128 .bf16) (harg1 : arg1.IsWhole) (x0 : Vec F S1x1x64x128 .bf16)
    (arg3 : Memref sig .tc .vmem S1x1x64x16256 .i8) (harg3 : arg3.IsWhole) (x2 : Vec F S1x1x64x16256 .i8)
    (arg4 : Memref sig .tc .vmem S1x508x2x128 .f32) (harg4 : arg4.IsWhole) (x3 : Vec F S1x508x2x128 .f32)
    (arg5 : Memref sig .tc .vmem S1x508x2x128 .f32) (harg5 : arg5.IsWhole) (x4 : Vec F S1x508x2x128 .f32) (k : Fin 31) : FVec F S64x512 .f32 :=
  scoreW (qW arg1 harg1 x0) (ldK i arg4 harg4 x3 k) (ldK i arg5 harg5 x4 k) (ldC arg3 harg3 x2 k)

/-- The last chunk's scores. -/
def scT (i : grid0.Coords) (arg1 : Memref sig .tc .vmem S1x1x64x128 .bf16) (harg1 : arg1.IsWhole) (x0 : Vec F S1x1x64x128 .bf16)
    (arg3 : Memref sig .tc .vmem S1x1x64x16256 .i8) (harg3 : arg3.IsWhole) (x2 : Vec F S1x1x64x16256 .i8)
    (arg4 : Memref sig .tc .vmem S1x508x2x128 .f32) (harg4 : arg4.IsWhole) (x3 : Vec F S1x508x2x128 .f32)
    (arg5 : Memref sig .tc .vmem S1x508x2x128 .f32) (harg5 : arg5.IsWhole) (x4 : Vec F S1x508x2x128 .f32) : FVec F S64x384 .f32 :=
  scoreT (qW arg1 harg1 x0) (ldKT i arg4 harg4 x3) (ldKT i arg5 harg5 x4) (ldCT arg3 harg3 x2)

/-- What is stored of the step's own keys' scores: the tail's on columns 0 to 127, the new keys' on 128 to 255. -/
def ePcs (i : grid0.Coords) (q : FVec F S64x128 .bf16) (kn : Vec F S1x1x4x128 .bf16) (kt : Vec F S1x1x128x128 .bf16)
    (base : List (View.Piece (Elt F) S2x64x256 .f32)) : List (View.Piece (Elt F) S2x64x256 .f32) :=
  ⟨Rect.unit (s := S2x64x256) (k0_off66 i) S1x64x128.size (k0_off66_inb i), k0_pay168 q (k0_pay158 kn) (k0_pay159 kn) (k0_pay160 kn)⟩ ::
  ⟨Rect.unit (s := S2x64x256) (k0_off65 i) S1x64x128.size (k0_off65_inb i), k0_pay167 q kt⟩ :: base

/-- What is stored of the rows' maxima. -/
def mPcs (i : grid0.Coords) (q : FVec F S64x128 .bf16) (s : Fin 31 → FVec F S64x512 .f32) (sT : FVec F S64x384 .f32)
    (kn : Vec F S1x1x4x128 .bf16) (kt : Vec F S1x1x128x128 .bf16)
    (base : List (View.Piece (Elt F) S2x64x128 .f32)) : List (View.Piece (Elt F) S2x64x128 .f32) :=
  ⟨Rect.unit (s := S2x64x128) (k0_off67 i) S1x64x128.size (k0_off67_inb i),
    k0_pay169 q (maxW s sT) (k0_pay158 kn) (k0_pay159 kn) (k0_pay160 kn) kt⟩ :: base

/-! The first point's fill of the slot that stage B reads, before anything is there. -/

def zP0 : View.Piece (Elt F) S2x64x16256 .f32 :=
  ⟨Rect.unit (s := S2x64x16256) ![1, 0, 0] S1x64x16256.size inb_S2x64x16256_S1x64x16256_1_0_0, k0_pay2⟩
def zP1 : View.Piece (Elt F) S2x64x256 .f32 :=
  ⟨Rect.unit (s := S2x64x256) ![1, 0, 0] S1x64x256.size inb_S2x64x256_S1x64x256_1_0_0, k0_pay3⟩
def zP2 : View.Piece (Elt F) S2x64x128 .f32 :=
  ⟨Rect.unit (s := S2x64x128) ![1, 0, 0] S1x64x128.size inb_S2x64x128_S1x64x128_1_0_0, k0_pay4⟩

end Loads

end Cert.KernelIdeal.Gen

end
-- ==== Proof.Mean.lean ====
/- What each load and each stored word of the body is worth at an index, over the extended reals. -/
module

public import proofs.«01_k».proof.Proof.Loads

@[expose] public section

noncomputable section

namespace Cert.KernelIdeal.Gen

open Idealize.ShloMosaic

/-! A load through a unit-stride rectangle reads at the offset index. -/

theorem rd_unit {sp : Space} {s : Shape} {e : EltTy} (v : View sig .tc sp s e) (f : v.ty.Contents (Elt Ideal)) (off size : Fin s.rank → ℕ)
    (inb : ∀ a, off a + size a ≤ s.size a) (j : (Rect.unit off size inb).shape.Idx) (y : s.Idx) (hy : ∀ a, (y a).val = off a + (j a).val) :
    View.readAt (Elt Ideal) v (Rect.unit off size inb).toLoadRect f j = v.read (Elt Ideal) f y := by
  have : (Rect.unit off size inb).emb j = y := funext fun a => Fin.ext (by
    show off a + 1 * (j a).val = (y a).val
    rw [hy a, Nat.one_mul])
  rw [← this]; rfl

theorem rd_whole {sp : Space} {s : Shape} {e : EltTy} (arg : Memref sig .tc sp s e) (harg : arg.IsWhole) (x : s.Idx → Elt Ideal e) (off size : Fin s.rank → ℕ)
    (inb : ∀ a, off a + size a ≤ s.size a) (j : (Rect.unit off size inb).shape.Idx) (y : s.Idx) (hy : ∀ a, (y a).val = off a + (j a).val) :
    View.readAt (Elt Ideal) arg.view (Rect.unit off size inb).toLoadRect (harg.unread x) j = x y := by
  rw [rd_unit _ _ _ _ _ _ y hy, harg.read_unread]

theorem ldK_apply (i : grid0.Coords) (arg harg) (x : Vec Ideal S1x508x2x128 .f32) (k : Fin 31) (g : Fin 16) (d : Fin 128) :
    ldK i arg harg x k (ix4 0 g 0 d) = x (ix4 0 ⟨16 * k.val + g.val, by omega⟩ ⟨(min (i 0).val 15) % 2, by omega⟩ d) := by
  refine rd_whole arg harg x _ _ _ _ _ fun a => ?_
  refine Eq.trans ?_ (congrArg (· + _) (congrFun (offK_eq i k) a).symm)
  fin_cases a <;> simp [ix4]

theorem ldKT_apply (i : grid0.Coords) (arg harg) (x : Vec Ideal S1x508x2x128 .f32) (g : Fin 12) (d : Fin 128) :
    ldKT i arg harg x (ix4 0 g 0 d) = x (ix4 0 ⟨496 + g.val, by omega⟩ ⟨(min (i 0).val 15) % 2, by omega⟩ d) := by
  refine rd_whole arg harg x _ _ _ _ _ fun a => ?_
  refine Eq.trans ?_ (congrArg (· + _) (congrFun (k0_off63_eq i) a).symm)
  fin_cases a <;> simp [ix4]

theorem ldC_apply (arg harg) (x : Vec Ideal S1x1x64x16256 .i8) (k : Fin 31) (d : Fin 64) (t : Fin 512) :
    ldC arg harg x k (ix4 0 0 d t) = x (ix4 0 0 d ⟨512 * k.val + t.val, by omega⟩) := by
  refine rd_whole arg harg x _ _ _ _ _ fun a => ?_
  fin_cases a <;> simp [ix4]

theorem ldCT_apply (arg harg) (x : Vec Ideal S1x1x64x16256 .i8) (d : Fin 64) (t : Fin 384) :
    ldCT arg harg x (ix4 0 0 d t) = x (ix4 0 0 d ⟨15872 + t.val, by omega⟩) := by
  refine rd_whole arg harg x _ _ _ _ _ fun a => ?_
  fin_cases a <;> simp [ix4]

theorem ldV_apply (i : grid0.Coords) (arg harg) (x : Vec Ideal S1x2x16256 .f32) (k : Fin 31) (t : Fin 512) :
    ldV i arg harg x k (ix3 0 0 t) = x (ix3 0 ⟨((i 0).val - 1) % 2, by omega⟩ ⟨512 * k.val + t.val, by omega⟩) := by
  refine rd_whole arg harg x _ _ _ _ _ fun a => ?_
  refine Eq.trans ?_ (congrArg (· + _) (congrFun (offV_eq i k) a).symm)
  fin_cases a <;> simp [ix3]

theorem off132_eq : ∀ i : grid0.Coords, k0_off132 i = ![0, ((i 0).val - 1) % 2, 15872] := by decide +kernel

theorem ldVT_apply (i : grid0.Coords) (arg harg) (x : Vec Ideal S1x2x16256 .f32) (t : Fin 384) :
    ldVT i arg harg x (ix3 0 0 t) = x (ix3 0 ⟨((i 0).val - 1) % 2, by omega⟩ ⟨15872 + t.val, by omega⟩) := by
  refine rd_whole arg harg x _ _ _ _ _ fun a => ?_
  refine Eq.trans ?_ (congrArg (· + _) (congrFun (off132_eq i) a).symm)
  fin_cases a <;> simp [ix3]

theorem ldN_eq (arg harg) (x : Vec Ideal S1x1x4x128 .bf16) : ldN arg harg x = x := by
  funext j
  refine rd_whole arg harg x _ _ _ _ _ fun a => ?_
  fin_cases a <;> simp

theorem ldT_eq (arg harg) (x : Vec Ideal S1x1x128x128 .bf16) : ldT arg harg x = x := by
  funext j
  refine rd_whole arg harg x _ _ _ _ _ fun a => ?_
  fin_cases a <;> simp

theorem ldPk_eq (arg harg) (x : Vec Ideal S128x64 .bf16) : ldPk arg harg x = x := by
  funext j
  refine rd_whole arg harg x _ _ _ _ _ fun a => ?_
  fin_cases a <;> simp

theorem qW_apply (arg harg) (x : Vec Ideal S1x1x64x128 .bf16) (r : Fin 64) (d : Fin 128) : qW arg harg x (ix2 r d) = x (ix4 0 0 r d) := by
  pointwise [qW]
  refine rd_whole arg harg x _ _ _ _ _ fun a => ?_
  fin_cases a <;> simp [ix4]

/-! The keys' mathematics. -/

/-- A cached key's channel: its code times its group's scale, plus its group's offset. -/
def keyV (kc : Vec Ideal S1x1x64x16256 .i8) (ks kz : Vec Ideal S1x508x2x128 .f32) (h : Fin 2) (d : Fin 128) (t : Fin 16256) : EReal :=
  FloatOps.sitofp (F := Ideal) .bf16 (nib (kc (ix4 0 0 ⟨d.val / 2, by omega⟩ t)) (d.val % 2)) * ks (ix4 0 ⟨t.val / 32, by omega⟩ h d)
    + kz (ix4 0 ⟨t.val / 32, by omega⟩ h d)

/-- A cached value's channel. -/
def valV (vc : Vec Ideal S1x1x64x16256 .i8) (vs vz : Vec Ideal S1x2x16256 .f32) (h : Fin 2) (d : Fin 128) (t : Fin 16256) : EReal :=
  FloatOps.sitofp (F := Ideal) .bf16 (nib (vc (ix4 0 0 ⟨d.val / 2, by omega⟩ t)) (d.val % 2)) * vs (ix3 0 h t) + vz (ix3 0 h t)

/-- A query row against a key. -/
def scr (q : Vec Ideal S1x1x64x128 .bf16) (r : Fin 64) (key : Fin 128 → EReal) : EReal := ∑ d, q (ix4 0 0 r d) * key d

theorem scA_apply (i : grid0.Coords) (arg1 harg1 x0 arg3 harg3 x2 arg4 harg4 x3 arg5 harg5 x4) (k : Fin 31) (r : Fin 64) (t : Fin 512) :
    scA (F := Ideal) i arg1 harg1 x0 arg3 harg3 x2 arg4 harg4 x3 arg5 harg5 x4 k (ix2 r t)
      = scr x0 r (fun d => keyV x2 x3 x4 ⟨(min (i 0).val 15) % 2, by omega⟩ d ⟨512 * k.val + t.val, by omega⟩) := by
  unfold scA scr keyV
  rw [scoreW_apply]
  refine Finset.sum_congr rfl fun d _ => ?_
  rw [qW_apply, unpackW_apply, repeatW_apply, repeatW_apply, ldC_apply, ldK_apply, ldK_apply]
  have e : (⟨16 * k.val + t.val / 32, by omega⟩ : Fin 508) = ⟨(512 * k.val + t.val) / 32, by omega⟩ := Fin.ext (by simp only []; omega)
  rw [e]

theorem scT_apply (i : grid0.Coords) (arg1 harg1 x0 arg3 harg3 x2 arg4 harg4 x3 arg5 harg5 x4) (r : Fin 64) (t : Fin 384) :
    scT (F := Ideal) i arg1 harg1 x0 arg3 harg3 x2 arg4 harg4 x3 arg5 harg5 x4 (ix2 r t)
      = scr x0 r (fun d => keyV x2 x3 x4 ⟨(min (i 0).val 15) % 2, by omega⟩ d ⟨15872 + t.val, by omega⟩) := by
  unfold scT scr keyV
  rw [scoreT_apply]
  refine Finset.sum_congr rfl fun d _ => ?_
  rw [qW_apply, unpackT_apply, repeatT_apply, repeatT_apply, ldCT_apply, ldKT_apply, ldKT_apply]
  have e : (⟨496 + t.val / 32, by omega⟩ : Fin 508) = ⟨(15872 + t.val) / 32, by omega⟩ := Fin.ext (by simp only []; omega)
  rw [e]

end Cert.KernelIdeal.Gen

end
-- ==== Proof.Quant.lean ====
/- What the body's quantiser words and the step's own scores are worth at an index, over the extended reals. -/
module

public import proofs.«01_k».proof.Proof.Mean

@[expose] public section

noncomputable section

namespace Cert.KernelIdeal.Gen

open Idealize.ShloMosaic

/-! A quantised group: its smallest and largest entry, its step, and an entry's code. -/

def qlo {n : ℕ} (f : Fin n → EReal) : EReal := Finset.univ.fold min (Ideal.ofBits .f32 0x7F800000#32) f
def qhi {n : ℕ} (f : Fin n → EReal) : EReal := Finset.univ.fold max (Ideal.ofBits .f32 0xFF800000#32) f
def qsc {n : ℕ} (f : Fin n → EReal) : EReal :=
  if 0 < qhi f - qlo f then Ideal.div (qhi f - qlo f) (Ideal.ofBits .f32 0x41700000#32) else 1
def qcd {n : ℕ} (f : Fin n → EReal) (x : EReal) : EReal :=
  min (Ideal.ofBits .f32 0x41700000#32) (max 0 (Ideal.liftRound Ideal.roundHalfEven (Ideal.div (x - qlo f) (qsc f))))

/-- A new key's channel, over the step's four tokens. -/
def kcol (kn : Vec Ideal S1x1x4x128 .bf16) (d : Fin 128) : Fin 4 → EReal := fun s => kn (ix4 0 0 s d)
/-- A new value's channels. -/
def vrow (vn : Vec Ideal S1x1x4x128 .bf16) (s : Fin 4) : Fin 128 → EReal := fun d => vn (ix4 0 0 s d)

theorem pay157_apply (kn : Vec Ideal S1x1x4x128 .bf16) (s : Fin 4) (d : Fin 128) : k0_pay157 kn (ix2 s d) = kcol kn d s := by
  pointwise [k0_pay157, kcol]

theorem pay158_apply (kn : Vec Ideal S1x1x4x128 .bf16) (d : Fin 128) : k0_pay158 kn (ix2 0 d) = qlo (kcol kn d) := by
  pointwise [k0_pay158, qlo, pay157_apply]

theorem pay159_apply (kn : Vec Ideal S1x1x4x128 .bf16) (d : Fin 128) : k0_pay159 kn (ix2 0 d) = qsc (kcol kn d) := by
  pointwise [k0_pay159, qsc, qhi, pay157_apply, pay158_apply]

theorem pay160_apply (kn : Vec Ideal S1x1x4x128 .bf16) (s : Fin 4) (d : Fin 128) : k0_pay160 kn (ix2 s d) = qcd (kcol kn d) (kcol kn d s) := by
  pointwise [k0_pay160, qcd, pay157_apply, pay158_apply, pay159_apply]

theorem pay311_apply (vn : Vec Ideal S1x1x4x128 .bf16) (s : Fin 4) : k0_pay311 vn (ix2 s 0) = qlo (vrow vn s) := by
  pointwise [k0_pay311, k0_pay310, qlo, vrow]

theorem pay312_apply (vn : Vec Ideal S1x1x4x128 .bf16) (s : Fin 4) : k0_pay312 vn (ix2 s 0) = qsc (vrow vn s) := by
  pointwise [k0_pay312, k0_pay310, qsc, qhi, vrow, pay311_apply]

theorem pay314_apply (vn : Vec Ideal S1x1x4x128 .bf16) (s : Fin 4) (d : Fin 128) :
    k0_pay314 (k0_pay313 vn) (Scalar.ofBits .f32 0x00000000#32) (Scalar.ofBits .f32 0x41700000#32) (ix2 s d) = qcd (vrow vn s) (vrow vn s d) := by
  pointwise [k0_pay314, k0_pay313, k0_pay310, qcd, vrow, pay311_apply, pay312_apply]

theorem pay167_apply (q : FVec Ideal S64x128 .bf16) (kt : Vec Ideal S1x1x128x128 .bf16) (r : Fin 64) (j : Fin 128) :
    k0_pay167 q kt (ix3 0 r j) = ∑ d, q (ix2 r d) * kt (ix4 0 0 j d) := by
  pointwise [k0_pay167, k0_pay165]

theorem mask_eq : ∀ (r : Fin 64) (j : Fin 128),
    IntOp.cmpi CmpIPredicate.sle (BitVec.ofNat 32 j.val) (IntOp.remsi ArithUnit.vector (BitVec.ofNat 32 r.val) 4#32) = if j.val ≤ r.val % 4 then 1#1 else 0#1 := by
  decide +kernel

theorem ofBits_bot : Ideal.ofBits .f32 0xFF800000#32 = ⊥ := by
  simp [Ideal.ofBits, Ideal.ieee]

theorem pay168_apply (q : FVec Ideal S64x128 .bf16) (kn : Vec Ideal S1x1x4x128 .bf16) (r : Fin 64) (j : Fin 128) :
    k0_pay168 q (k0_pay158 kn) (k0_pay159 kn) (k0_pay160 kn) (ix3 0 r j)
      = if j.val ≤ r.val % 4 then ∑ d, q (ix2 r d) * (if h : j.val < 4 then qcd (kcol kn d) (kcol kn d ⟨j.val, h⟩) * qsc (kcol kn d) + qlo (kcol kn d) else 0) else ⊥ := by
  pointwise [k0_pay168, k0_pay166, pay158_apply, pay159_apply, pay160_apply]
  rw [mask_eq, ofBits_bot]
  split <;> rfl

theorem pay318_apply (vn : Vec Ideal S1x1x4x128 .bf16) (j d : Fin 128) :
    k0_pay318 (k0_pay311 vn) (k0_pay312 vn) (k0_pay313 vn) (Scalar.ofBits .f32 0x00000000#32) (Scalar.ofBits .f32 0x41700000#32) (ix2 j d)
      = if h : j.val < 4 then qcd (vrow vn ⟨j.val, h⟩) (vrow vn ⟨j.val, h⟩ d) * qsc (vrow vn ⟨j.val, h⟩) + qlo (vrow vn ⟨j.val, h⟩) else 0 := by
  have e (s : Fin 4) (d : Fin 128) : k0_pay314 (k0_pay313 vn) 0 (Ideal.ofBits .f32 0x41700000#32) (ix2 s d) = qcd (vrow vn s) (vrow vn s d) := by
    pointwise [k0_pay314, k0_pay313, k0_pay310, qcd, vrow, pay311_apply, pay312_apply]
  pointwise [k0_pay318, pay311_apply, pay312_apply, e]

end Cert.KernelIdeal.Gen

end
-- ==== Proof.Slot.lean ====
/- What a slot of the three scratch buffers holds of one pair's scores: what stage A leaves there, what survives stage A at the
   other slot, and what the first point's fill leaves. -/
module

public import proofs.«01_k».proof.Proof.Quant
public import Idealize.ShloMosaic.Lib.WritesUnit

@[expose] public section

set_option maxHeartbeats 1000000

noncomputable section

namespace Cert.KernelIdeal.Gen

open Idealize.ShloMosaic

/-- The lower bound every row's maximum starts from. -/
def mBot : EReal := Ideal.ofBits .f32 0xF149F2CA#32

/-- Slot `a` holds the scores `S` against the cache and `E` against the step's own keys, and lane maxima that bound them. -/
structure SlotOK (S : Fin 64 → Fin 16256 → EReal) (E : Fin 64 → Fin 256 → EReal) (a : Fin 2)
    (X0 : Vec Ideal S2x64x16256 .f32) (X1 : Vec Ideal S2x64x256 .f32) (X2 : Vec Ideal S2x64x128 .f32) : Prop where
  s : ∀ r t, X0 (ix3 a r t) = S r t
  e : ∀ r j, X1 (ix3 a r j) = E r j
  mS : ∀ r t, S r t ≤ X2 (ix3 a r ⟨t.val % 128, by omega⟩)
  mE : ∀ r j, E r j ≤ X2 (ix3 a r ⟨j.val % 128, by omega⟩)
  mb : ∀ r l, mBot ≤ X2 (ix3 a r l)
  mt : ∀ r l, X2 (ix3 a r l) = ⊤ → (∃ t, S r t = ⊤) ∨ ∃ j, E r j = ⊤

/-- The cache's scores at one point. -/
def cacheS (i : grid0.Coords) (x0 : Vec Ideal S1x1x64x128 .bf16) (x2 : Vec Ideal S1x1x64x16256 .i8) (x3 x4 : Vec Ideal S1x508x2x128 .f32)
    (r : Fin 64) (t : Fin 16256) : EReal :=
  scr x0 r fun d => keyV x2 x3 x4 ⟨(min (i 0).val 15) % 2, by omega⟩ d t

/-- A new key's channel, once quantised and read back; zero past the fourth token. -/
def newK (kn : Vec Ideal S1x1x4x128 .bf16) (j : ℕ) (d : Fin 128) : EReal :=
  if h : j < 4 then qcd (kcol kn d) (kcol kn d ⟨j, h⟩) * qsc (kcol kn d) + qlo (kcol kn d) else 0

/-- The scores against the step's own keys: the tail's, then the new ones', masked by the row's token. -/
def ownS (x0 : Vec Ideal S1x1x64x128 .bf16) (x8 : Vec Ideal S1x1x128x128 .bf16) (x10 : Vec Ideal S1x1x4x128 .bf16)
    (r : Fin 64) (j : Fin 256) : EReal :=
  if h : j.val < 128 then scr x0 r fun d => x8 (ix4 0 0 ⟨j.val, h⟩ d)
  else if j.val - 128 ≤ r.val % 4 then scr x0 r fun d => newK x10 (j.val - 128) d else ⊥

section Reads
variable (i : grid0.Coords) {sp : Space}

theorem sPcs_hit (v : View sig .tc sp S2x64x16256 .f32) (f : v.ty.Contents (Elt Ideal)) (s : Fin 31 → FVec Ideal S64x512 .f32) (sT base)
    (a : Fin 2) (ha : a.val = (i 0).val % 2) (S : Fin 64 → Fin 16256 → EReal)
    (hs : ∀ k r (t : Fin 512), s k (ix2 r t) = S r ⟨512 * k.val + t.val, by omega⟩)
    (hT : ∀ r (t : Fin 384), sT (ix2 r t) = S r ⟨15872 + t.val, by omega⟩) (r : Fin 64) (t : Fin 16256) :
    v.read (Elt Ideal) (v.writes (Elt Ideal) f (sPcs i s sT base)) (ix3 a r t) = S r t := by
  unfold sPcs
  by_cases ht : 15872 ≤ t.val
  · refine Eq.trans (View.read_writes_cons_unit_of_mem v f _ _ _ _ (ix3 0 r ⟨t.val - 15872, by omega⟩) (k0_off64_eq i)
      (fun b => by fin_cases b <;> simp [ix3] <;> omega)) ?_
    pointwise []
    rw [hT]
    exact congrArg (S r) (Fin.ext (Nat.add_sub_cancel' ht))
  · refine Eq.trans (View.read_writes_cons_unit_of_not_mem v f _ _ _ _ (k0_off64_eq i) 2 (Or.inl (by simp [ix3]; omega))) ?_
    have key : ∀ (n : ℕ) (h : n ≤ 31), t.val < 512 * n → v.read (Elt Ideal) (v.writes (Elt Ideal) f (pcs i s base n h)) (ix3 a r t) = S r t := by
      intro n
      induction n with
      | zero => intro h hn; omega
      | succ n ih =>
        intro h hn
        unfold pcs
        by_cases hk : 512 * n ≤ t.val
        · refine Eq.trans (View.read_writes_cons_unit_of_mem v f _ _ _ _ (ix3 0 r ⟨t.val - 512 * n, by omega⟩) (offS_eq i ⟨n, h⟩)
            (fun b => by fin_cases b <;> simp [ix3] <;> omega)) ?_
          pointwise []
          rw [hs]
          exact congrArg (S r) (Fin.ext (Nat.add_sub_cancel' hk))
        · refine Eq.trans (View.read_writes_cons_unit_of_not_mem v f _ _ _ _ (offS_eq i ⟨n, h⟩) 2 (Or.inl (by simp [ix3]; omega))) ?_
          exact ih _ (by omega)
    exact key 31 _ (by omega)

theorem sPcs_miss (v : View sig .tc sp S2x64x16256 .f32) (f : v.ty.Contents (Elt Ideal)) (s : Fin 31 → FVec Ideal S64x512 .f32) (sT base)
    (a : Fin 2) (ha : a.val ≠ (i 0).val % 2) (r : Fin 64) (t : Fin 16256) :
    v.read (Elt Ideal) (v.writes (Elt Ideal) f (sPcs i s sT base)) (ix3 a r t) = v.read (Elt Ideal) (v.writes (Elt Ideal) f base) (ix3 a r t) := by
  unfold sPcs
  refine Eq.trans (View.read_writes_cons_unit_of_not_mem v f _ _ _ _ (k0_off64_eq i) 0 (by simp [ix3]; omega)) ?_
  have key : ∀ (n : ℕ) (h : n ≤ 31), v.read (Elt Ideal) (v.writes (Elt Ideal) f (pcs i s base n h)) (ix3 a r t)
      = v.read (Elt Ideal) (v.writes (Elt Ideal) f base) (ix3 a r t) := by
    intro n
    induction n with
    | zero => intro h; rfl
    | succ n ih =>
      intro h
      unfold pcs
      refine Eq.trans (View.read_writes_cons_unit_of_not_mem v f _ _ _ _ (offS_eq i ⟨n, h⟩) 0 (by simp [ix3]; omega)) ?_
      exact ih _
  exact key 31 _

theorem ePcs_hit (v : View sig .tc sp S2x64x256 .f32) (f : v.ty.Contents (Elt Ideal)) (q : FVec Ideal S64x128 .bf16)
    (x0 : Vec Ideal S1x1x64x128 .bf16) (hq : ∀ r d, q (ix2 r d) = x0 (ix4 0 0 r d)) (kn kt base)
    (a : Fin 2) (ha : a.val = (i 0).val % 2) (r : Fin 64) (j : Fin 256) :
    v.read (Elt Ideal) (v.writes (Elt Ideal) f (ePcs i q kn kt base)) (ix3 a r j) = ownS x0 kt kn r j := by
  unfold ePcs ownS
  by_cases hj : j.val < 128
  · refine Eq.trans (View.read_writes_cons_unit_of_not_mem v f _ _ _ _ (k0_off66_eq i) 2 (Or.inl (by simp [ix3]; omega))) ?_
    refine Eq.trans (View.read_writes_cons_unit_of_mem v f _ _ _ _ (ix3 0 r ⟨j.val, hj⟩) (k0_off65_eq i) (fun b => by fin_cases b <;> simp [ix3] <;> omega)) ?_
    rw [dif_pos hj, pay167_apply]
    simp only [hq]; rfl
  · refine Eq.trans (View.read_writes_cons_unit_of_mem v f _ _ _ _ (ix3 0 r ⟨j.val - 128, by omega⟩) (k0_off66_eq i) (fun b => by fin_cases b <;> simp [ix3] <;> omega)) ?_
    rw [dif_neg hj, pay168_apply]
    simp only [hq]; rfl

theorem ePcs_miss (v : View sig .tc sp S2x64x256 .f32) (f : v.ty.Contents (Elt Ideal)) (q : FVec Ideal S64x128 .bf16) (kn kt base)
    (a : Fin 2) (ha : a.val ≠ (i 0).val % 2) (r : Fin 64) (j : Fin 256) :
    v.read (Elt Ideal) (v.writes (Elt Ideal) f (ePcs i q kn kt base)) (ix3 a r j) = v.read (Elt Ideal) (v.writes (Elt Ideal) f base) (ix3 a r j) := by
  unfold ePcs
  refine Eq.trans (View.read_writes_cons_unit_of_not_mem v f _ _ _ _ (k0_off66_eq i) 0 (by simp [ix3]; omega)) ?_
  exact View.read_writes_cons_unit_of_not_mem v f _ _ _ _ (k0_off65_eq i) 0 (by simp [ix3]; omega)

theorem mPcs_hit (v : View sig .tc sp S2x64x128 .f32) (f : v.ty.Contents (Elt Ideal)) (q : FVec Ideal S64x128 .bf16)
    (x0 : Vec Ideal S1x1x64x128 .bf16) (hq : ∀ r d, q (ix2 r d) = x0 (ix4 0 0 r d)) (s sT kn kt base)
    (a : Fin 2) (ha : a.val = (i 0).val % 2) (r : Fin 64) (l : Fin 128) :
    v.read (Elt Ideal) (v.writes (Elt Ideal) f (mPcs i q s sT kn kt base)) (ix3 a r l)
      = max (maxW s sT (ix2 r l)) (max (ownS x0 kt kn r ⟨l.val, by omega⟩) (ownS x0 kt kn r ⟨128 + l.val, by omega⟩)) := by
  unfold mPcs
  refine Eq.trans (View.read_writes_cons_unit_of_mem v f _ _ _ _ (ix3 0 r l) (k0_off67_eq i) (fun b => by fin_cases b <;> simp [ix3] <;> omega)) ?_
  have e1 : ownS x0 kt kn r ⟨l.val, by omega⟩ = k0_pay167 q kt (ix3 0 r l) := by
    rw [pay167_apply]; unfold ownS; rw [dif_pos l.isLt]; simp only [hq]; rfl
  have e2 : ownS x0 kt kn r ⟨128 + l.val, by omega⟩ = k0_pay168 q (k0_pay158 kn) (k0_pay159 kn) (k0_pay160 kn) (ix3 0 r l) := by
    rw [pay168_apply]; unfold ownS
    rw [dif_neg (by simp only []; omega)]
    simp only [hq, Nat.add_sub_cancel_left]; rfl
  rw [e1, e2]
  pointwise [k0_pay169, k0_pay167, k0_pay168]

theorem mPcs_miss (v : View sig .tc sp S2x64x128 .f32) (f : v.ty.Contents (Elt Ideal)) (q : FVec Ideal S64x128 .bf16) (s sT kn kt base)
    (a : Fin 2) (ha : a.val ≠ (i 0).val % 2) (r : Fin 64) (l : Fin 128) :
    v.read (Elt Ideal) (v.writes (Elt Ideal) f (mPcs i q s sT kn kt base)) (ix3 a r l) = v.read (Elt Ideal) (v.writes (Elt Ideal) f base) (ix3 a r l) := by
  unfold mPcs
  exact View.read_writes_cons_unit_of_not_mem v f _ _ _ _ (k0_off67_eq i) 0 (by simp [ix3]; omega)

end Reads

/-! The running maximum. -/

theorem chain_max_spec (g : Fin 31 → FVec Ideal S64x128 .f32) (z : FVec Ideal S64x128 .f32) (j : S64x128.Idx) (n : ℕ) (h : n ≤ 31) :
    z j ≤ chain maximumf z g n h j ∧ (∀ k : Fin 31, k.val < n → g k j ≤ chain maximumf z g n h j)
      ∧ (chain maximumf z g n h j = z j ∨ ∃ k, chain maximumf z g n h j = g k j) := by
  induction n with
  | zero => exact ⟨le_rfl, fun k hk => absurd hk (Nat.not_lt_zero _), Or.inl rfl⟩
  | succ n ih =>
    obtain ⟨h1, h2, h3⟩ := ih (Nat.le_of_succ_le h)
    have e : chain maximumf z g (n + 1) h j = max (chain maximumf z g n (Nat.le_of_succ_le h) j) (g ⟨n, h⟩ j) := by
      pointwise [chain]
    rw [e]
    refine ⟨h1.trans (le_max_left _ _), fun k hk => ?_, ?_⟩
    · by_cases hkn : k.val < n
      · exact (h2 k hkn).trans (le_max_left _ _)
      · have : k = ⟨n, h⟩ := Fin.ext (by simp only []; omega)
        rw [this]; exact le_max_right _ _
    · rcases max_choice (chain maximumf z g n (Nat.le_of_succ_le h) j) (g ⟨n, h⟩ j) with hc | hc
      · rw [hc]; exact h3
      · rw [hc]; exact Or.inr ⟨_, rfl⟩

theorem maxW_spec (s : Fin 31 → FVec Ideal S64x512 .f32) (sT : FVec Ideal S64x384 .f32) (S : Fin 64 → Fin 16256 → EReal)
    (hs : ∀ k r (t : Fin 512), s k (ix2 r t) = S r ⟨512 * k.val + t.val, by omega⟩)
    (hT : ∀ r (t : Fin 384), sT (ix2 r t) = S r ⟨15872 + t.val, by omega⟩) (r : Fin 64) (l : Fin 128) :
    mBot ≤ maxW s sT (ix2 r l) ∧ (∀ t : Fin 16256, t.val % 128 = l.val → S r t ≤ maxW s sT (ix2 r l))
      ∧ (maxW s sT (ix2 r l) = mBot ∨ ∃ t, maxW s sT (ix2 r l) = S r t) := by
  obtain ⟨h1, h2, h3⟩ := chain_max_spec (fun k => laneMaxW (s k)) (broadcast S64x128 (Scalar.ofBits .f32 0xF149F2CA#32)) (ix2 r l) 31 le_rfl
  have e : maxW s sT (ix2 r l) = max (chain maximumf (broadcast S64x128 (Scalar.ofBits .f32 0xF149F2CA#32)) (fun k => laneMaxW (s k)) 31 le_rfl (ix2 r l)) (laneMaxT sT (ix2 r l)) := by
    pointwise [maxW]
  rw [e]
  simp only [laneMaxW_apply, hs] at h2 h3
  rw [laneMaxT_apply]; simp only [hT]
  refine ⟨h1.trans (le_max_left _ _), fun t ht => ?_, ?_⟩
  · by_cases hk : t.val < 15872
    · refine le_trans ?_ ((h2 ⟨t.val / 512, by omega⟩ (by simp only []; omega)).trans (le_max_left _ _))
      have : t.val % 512 / 128 = 0 ∨ t.val % 512 / 128 = 1 ∨ t.val % 512 / 128 = 2 ∨ t.val % 512 / 128 = 3 := by omega
      simp only [le_max_iff]
      rcases this with h | h | h | h
      · left; left; left; exact le_of_eq (congrArg _ (Fin.ext (by simp only []; omega)))
      · left; left; right; exact le_of_eq (congrArg _ (Fin.ext (by simp only []; omega)))
      · left; right; exact le_of_eq (congrArg _ (Fin.ext (by simp only []; omega)))
      · right; exact le_of_eq (congrArg _ (Fin.ext (by simp only []; omega)))
    · refine le_trans ?_ (le_max_right _ _)
      have : (t.val - 15872) / 128 = 0 ∨ (t.val - 15872) / 128 = 1 ∨ (t.val - 15872) / 128 = 2 := by omega
      simp only [le_max_iff]
      rcases this with h | h | h
      · left; left; exact le_of_eq (congrArg _ (Fin.ext (by simp only []; omega)))
      · left; right; exact le_of_eq (congrArg _ (Fin.ext (by simp only []; omega)))
      · right; exact le_of_eq (congrArg _ (Fin.ext (by simp only []; omega)))
  · have m3 (x y z : EReal) : max (max x y) z = x ∨ max (max x y) z = y ∨ max (max x y) z = z := by
      rcases max_choice (max x y) z with h | h <;> rw [h]
      · rcases max_choice x y with h' | h' <;> rw [h'] <;> simp
      · simp
    rcases max_choice (chain maximumf (broadcast S64x128 (Scalar.ofBits .f32 0xF149F2CA#32)) (fun k => laneMaxW (s k)) 31 le_rfl (ix2 r l)) _ with hc | hc
    · rw [hc]
      rcases h3 with h3 | ⟨k, h3⟩
      · left; rw [h3]; rfl
      · right; rw [h3]
        rcases max_choice (max (max (S r _) (S r _)) (S r _)) (S r ⟨512 * k.val + (384 + l.val), by omega⟩) with h | h
        · rw [h]; rcases m3 _ _ _ with h' | h' | h' <;> exact ⟨_, h'⟩
        · exact ⟨_, h⟩
    · rw [hc]; right
      rcases m3 _ _ _ with h' | h' | h' <;> exact ⟨_, h'⟩

theorem mBot_eq : mBot = ((-1000000015047466219876688855040 : ℝ) : EReal) := by
  unfold mBot
  simp [Ideal.ofBits, Ideal.ieee, -EReal.coe_mul]
  norm_num

end Cert.KernelIdeal.Gen

end
-- ==== Proof.Softmax.lean ====
/- A softmax-weighted mean on the extended reals: taking powers of two of the scaled differences from the largest
   score, or exponentials of the differences of the scaled scores, gives one quotient. -/
module

public import Idealize.ShloMosaic.PureOps.Ideal

@[expose] public section

noncomputable section

namespace Cert.Softmax

open Idealize.ShloMosaic
open scoped BigOperators

/-- A positive real factor goes under a sum. -/
theorem coe_mul_sum {ι : Type*} [Fintype ι] {a : ℝ} (ha : 0 < a) (f : ι → EReal) :
    (a : EReal) * ∑ t, f t = ∑ t, (a : EReal) * f t := by
  classical
  have h0 : (0 : EReal) ≤ (a : EReal) := by exact_mod_cast ha.le
  have := map_sum (⟨⟨fun x => (a : EReal) * x, mul_zero _⟩,
    fun x y => EReal.left_distrib_of_nonneg_of_ne_top h0 (EReal.coe_ne_top a) x y⟩ : EReal →+ EReal) f Finset.univ
  exact this

/-- A positive real factor of both terms of a quotient cancels. -/
theorem div_scale {a : ℝ} (ha : 0 < a) (x y : EReal) :
    Ideal.div ((a : EReal) * x) ((a : EReal) * y) = Ideal.div x y := by
  have hne : (a : EReal) ≠ 0 := by exact_mod_cast ha.ne'
  have hpos : (0 < (a : EReal) * x) ↔ 0 < x := by
    induction x using EReal.rec with
    | bot => rw [EReal.coe_mul_bot_of_pos ha]
    | top => rw [EReal.coe_mul_top_of_pos ha]
    | coe r =>
      rw [← EReal.coe_mul]
      constructor <;> intro h
      · exact_mod_cast (pos_iff_pos_of_mul_pos (by exact_mod_cast h : 0 < a * r)).mp ha
      · exact_mod_cast mul_pos ha (by exact_mod_cast h)
  unfold Ideal.div
  by_cases hy : y = 0
  · rw [hy, mul_zero, if_pos rfl, if_pos rfl]
    simp only [hpos]
  · rw [if_neg (mul_ne_zero hne hy), if_neg hy, EReal.mul_inv, mul_mul_mul_comm, ← EReal.coe_inv, ← EReal.coe_mul,
      mul_inv_cancel₀ ha.ne', EReal.coe_one, one_mul]

/-- The softmax's scale in powers of two. -/
def c2 : ℝ := (Real.sqrt 128)⁻¹ * (Real.log 2)⁻¹

theorem sqrt128_pos : 0 < Real.sqrt 128 := Real.sqrt_pos.mpr (by norm_num)

theorem c2_pos : 0 < c2 := mul_pos (inv_pos.mpr sqrt128_pos) (inv_pos.mpr (Real.log_pos (by norm_num)))

/-- A score's weight by powers of two, from a real largest score `M`, is its weight by exponentials of the scaled
    scores, from a real largest one `N`, times a positive real that depends on `M` and `N` alone. -/
theorem weight_eq (s : EReal) (hs : s ≠ ⊤) (M N : ℝ) :
    Ideal.exp2 ((s - (M : EReal)) * ((c2 : ℝ) : EReal))
      = ((Real.exp (N - M / Real.sqrt 128) : ℝ) : EReal)
        * Ideal.exp (Ideal.div s ((Real.sqrt 128 : ℝ) : EReal) - (N : EReal)) := by
  have hq : Real.sqrt 128 ≠ 0 := sqrt128_pos.ne'
  have hl : Real.log 2 ≠ 0 := (Real.log_pos (by norm_num)).ne'
  rw [Ideal.div_coe hq]
  induction s using EReal.rec with
  | top => exact absurd rfl hs
  | bot =>
    rw [EReal.bot_sub, EReal.bot_mul_coe_of_pos c2_pos, EReal.bot_mul_coe_of_pos (by positivity), EReal.bot_sub,
      Ideal.exp2_bot, Ideal.exp_bot, mul_zero]
  | coe r =>
    rw [← EReal.coe_sub, ← EReal.coe_mul, ← EReal.coe_mul, ← EReal.coe_sub, Ideal.exp2_coe, Ideal.exp_coe,
      ← EReal.coe_mul]
    congr 1
    rw [← Real.exp_add]
    show (2 : ℝ) ^ ((r - M) * c2) = _
    rw [Real.rpow_def_of_pos (by norm_num : (0 : ℝ) < 2)]
    congr 1
    unfold c2
    field_simp
    ring

variable {ι : Type*} [Fintype ι]

/-- The two softmaxes' quotients agree: `mK` is at least every score and the real `b`, and infinite only if a score is;
    `mR` likewise of the scaled scores. -/
theorem softmax_eq (S v : ι → EReal) (b : ℝ) (mK mR : EReal) (hKb : (b : EReal) ≤ mK) (hK : ∀ t, S t ≤ mK)
    (hKt : mK = ⊤ → ∃ t, S t = ⊤) (hRb : (b : EReal) ≤ mR)
    (hR : ∀ t, Ideal.div (S t) ((Real.sqrt 128 : ℝ) : EReal) ≤ mR)
    (hRt : mR = ⊤ → ∃ t, Ideal.div (S t) ((Real.sqrt 128 : ℝ) : EReal) = ⊤) :
    Ideal.div (∑ t, Ideal.exp2 ((S t - mK) * ((c2 : ℝ) : EReal)) * v t)
        (∑ t, Ideal.exp2 ((S t - mK) * ((c2 : ℝ) : EReal)))
      = Ideal.div (∑ t, Ideal.exp (Ideal.div (S t) ((Real.sqrt 128 : ℝ) : EReal) - mR) * v t)
        (∑ t, Ideal.exp (Ideal.div (S t) ((Real.sqrt 128 : ℝ) : EReal) - mR)) := by
  have hq : Real.sqrt 128 ≠ 0 := sqrt128_pos.ne'
  have htop : ∀ t, Ideal.div (S t) ((Real.sqrt 128 : ℝ) : EReal) = ⊤ ↔ S t = ⊤ := by
    intro t
    rw [Ideal.div_coe hq]
    induction S t using EReal.rec with
    | top => simp [EReal.top_mul_coe_of_pos (inv_pos.mpr sqrt128_pos)]
    | bot => simp [EReal.bot_mul_coe_of_pos (inv_pos.mpr sqrt128_pos)]
    | coe r =>
      rw [← EReal.coe_mul]
      exact ⟨fun h => absurd h (EReal.coe_ne_top _), fun h => absurd h (EReal.coe_ne_top _)⟩
  by_cases hm : mK = ⊤
  · have hm' : mR = ⊤ := by
      obtain ⟨t, ht⟩ := hKt hm
      exact top_le_iff.mp ((htop t).mpr ht ▸ hR t)
    have h1 : ∀ t, Ideal.exp2 ((S t - mK) * ((c2 : ℝ) : EReal)) = 0 := fun t => by
      rw [hm, EReal.sub_top, EReal.bot_mul_coe_of_pos c2_pos, Ideal.exp2_bot]
    have h2 : ∀ t, Ideal.exp (Ideal.div (S t) ((Real.sqrt 128 : ℝ) : EReal) - mR) = 0 := fun t => by
      rw [hm', EReal.sub_top, Ideal.exp_bot]
    simp only [h1, h2]
  · have hm' : mR ≠ ⊤ := fun h => by
      obtain ⟨t, ht⟩ := hRt h
      exact hm (top_le_iff.mp ((htop t).mp ht ▸ hK t))
    have hb : mK ≠ ⊥ := fun h => by rw [h] at hKb; exact absurd (le_bot_iff.mp hKb) (EReal.coe_ne_bot b)
    have hb' : mR ≠ ⊥ := fun h => by rw [h] at hRb; exact absurd (le_bot_iff.mp hRb) (EReal.coe_ne_bot b)
    lift mK to ℝ using ⟨hm, hb⟩
    lift mR to ℝ using ⟨hm', hb'⟩
    have hs : ∀ t, S t ≠ ⊤ := fun t h => hm (top_le_iff.mp (h ▸ hK t))
    simp only [weight_eq _ (hs _) mK mR, mul_assoc]
    rw [← coe_mul_sum (Real.exp_pos _), ← coe_mul_sum (Real.exp_pos _), div_scale (Real.exp_pos _)]

end Cert.Softmax

end
-- ==== Proof.Attn.lean ====
/- The output block's words over the extended reals: one softmax over the cache and the step's own keys. -/
module

public import proofs.«01_k».proof.Proof.Slot
public import proofs.«01_k».proof.Proof.Softmax

@[expose] public section

set_option maxHeartbeats 1000000

noncomputable section

namespace Cert.KernelIdeal.Gen

open Idealize.ShloMosaic

/-! Sums over chunks and lanes. -/

theorem sum_split (m n N : ℕ) (h : m * n = N) (g : Fin N → EReal) :
    ∑ t : Fin N, g t = ∑ k : Fin m, ∑ t : Fin n, g ⟨n * k.val + t.val, by
      have := k.isLt; have := t.isLt; rw [← h]
      calc n * k.val + t.val < n * k.val + n := by omega
        _ = n * (k.val + 1) := by ring
        _ ≤ n * m := Nat.mul_le_mul_left _ (by omega)
        _ = m * n := Nat.mul_comm _ _⟩ := by
  subst h
  rw [← Fintype.sum_equiv finProdFinEquiv (fun p => g (finProdFinEquiv p)) g fun _ => rfl, Fintype.sum_prod_type]
  refine Finset.sum_congr rfl fun k _ => Finset.sum_congr rfl fun t _ => congrArg g (Fin.ext ?_)
  simp [finProdFinEquiv, Nat.add_comm]

theorem sum_append (m n N : ℕ) (h : m + n = N) (g : Fin N → EReal) :
    ∑ t : Fin N, g t = ∑ t : Fin m, g ⟨t.val, by omega⟩ + ∑ t : Fin n, g ⟨m + t.val, by omega⟩ := by
  subst h
  rw [Fin.sum_univ_add]; rfl

theorem sum_chunks (g : Fin 16256 → EReal) :
    ∑ t, g t = ∑ k : Fin 31, ∑ t : Fin 512, g ⟨512 * k.val + t.val, by omega⟩ + ∑ t : Fin 384, g ⟨15872 + t.val, by omega⟩ := by
  rw [sum_append 15872 384 16256 rfl g, sum_split 31 512 15872 rfl]

theorem sum_lanesW (g : Fin 512 → EReal) :
    ∑ t, g t = ∑ l : Fin 128, (g ⟨l.val, by omega⟩ + g ⟨128 + l.val, by omega⟩ + g ⟨256 + l.val, by omega⟩ + g ⟨384 + l.val, by omega⟩) := by
  rw [sum_split 4 128 512 rfl, Finset.sum_comm]
  refine Finset.sum_congr rfl fun l _ => ?_
  rw [Fin.sum_univ_four]
  simp

theorem sum_lanesT (g : Fin 384 → EReal) :
    ∑ t, g t = ∑ l : Fin 128, (g ⟨l.val, by omega⟩ + g ⟨128 + l.val, by omega⟩ + g ⟨256 + l.val, by omega⟩) := by
  rw [sum_split 3 128 384 rfl, Finset.sum_comm]
  refine Finset.sum_congr rfl fun l _ => ?_
  rw [Fin.sum_univ_three]
  simp

theorem chain_add (g : Fin 31 → FVec Ideal S64x128 .f32) (j : S64x128.Idx) :
    chain addf (broadcast S64x128 (Scalar.ofBits .f32 0x00000000#32)) g 31 le_rfl j = ∑ k, g k j := by
  have key : ∀ (n : ℕ) (h : n ≤ 31), chain addf (broadcast S64x128 (Scalar.ofBits .f32 0x00000000#32)) g n h j
      = ∑ k : Fin n, g ⟨k.val, by omega⟩ j := by
    intro n
    induction n with
    | zero => intro h; rw [Fin.sum_univ_zero]; pointwise [chain]
    | succ n ih =>
      intro h
      rw [Fin.sum_univ_castSucc]
      refine Eq.trans (?_ : _ = chain addf (broadcast S64x128 (Scalar.ofBits .f32 0x00000000#32)) g n (Nat.le_of_succ_le h) j + g ⟨n, h⟩ j) ?_
      · rfl
      · rw [ih]; rfl
  exact key 31 le_rfl

/-! The attention of one row. -/

/-- The row's scores, over the cache and then the step's own keys. -/
def rowS (S : Fin 64 → Fin 16256 → EReal) (E : Fin 64 → Fin 256 → EReal) (r : Fin 64) : Fin 16256 ⊕ Fin 256 → EReal := Sum.elim (S r) (E r)

/-- The scaled scores' maximum, from the row maximum's lower bound up. -/
def rowM (S : Fin 64 → Fin 16256 → EReal) (E : Fin 64 → Fin 256 → EReal) (r : Fin 64) : EReal :=
  Finset.univ.fold max mBot fun t => Ideal.div (rowS S E r t) ((Real.sqrt 128 : ℝ) : EReal)

def attn (S : Fin 64 → Fin 16256 → EReal) (E : Fin 64 → Fin 256 → EReal) (V : Fin 128 → Fin 16256 → EReal) (W : Fin 128 → Fin 256 → EReal)
    (r : Fin 64) (d : Fin 128) : EReal :=
  Ideal.div (∑ t, Ideal.exp (Ideal.div (rowS S E r t) ((Real.sqrt 128 : ℝ) : EReal) - rowM S E r) * Sum.elim (V d) (W d) t)
    (∑ t, Ideal.exp (Ideal.div (rowS S E r t) ((Real.sqrt 128 : ℝ) : EReal) - rowM S E r))

theorem fold_max_facts {ι : Type} [Fintype ι] (b : EReal) (f : ι → EReal) :
    b ≤ Finset.univ.fold max b f ∧ (∀ t, f t ≤ Finset.univ.fold max b f)
      ∧ (Finset.univ.fold max b f = b ∨ ∃ t, Finset.univ.fold max b f = f t) := by
  classical
  have key : ∀ s : Finset ι, b ≤ s.fold max b f ∧ (∀ t ∈ s, f t ≤ s.fold max b f) ∧ (s.fold max b f = b ∨ ∃ t, s.fold max b f = f t) := by
    intro s
    induction s using Finset.induction_on with
    | empty => exact ⟨le_rfl, fun t ht => absurd ht (Finset.notMem_empty t), Or.inl rfl⟩
    | insert a s ha ih =>
      obtain ⟨h1, h2, h3⟩ := ih
      rw [Finset.fold_insert ha]
      refine ⟨h1.trans (le_max_right _ _), fun t ht => ?_, ?_⟩
      · rcases Finset.mem_insert.mp ht with rfl | ht
        · exact le_max_left _ _
        · exact (h2 t ht).trans (le_max_right _ _)
      · rcases max_choice (f a) (s.fold max b f) with h | h
        · exact Or.inr ⟨a, h⟩
        · rw [h]; exact h3
  exact ⟨(key _).1, fun t => (key _).2.1 t (Finset.mem_univ t), (key _).2.2⟩

theorem rowM_facts (S E) (r : Fin 64) : mBot ≤ rowM S E r ∧ (∀ t, Ideal.div (rowS S E r t) ((Real.sqrt 128 : ℝ) : EReal) ≤ rowM S E r)
    ∧ (rowM S E r = ⊤ → ∃ t, Ideal.div (rowS S E r t) ((Real.sqrt 128 : ℝ) : EReal) = ⊤) := by
  obtain ⟨h1, h2, h3⟩ := fold_max_facts mBot fun t => Ideal.div (rowS S E r t) ((Real.sqrt 128 : ℝ) : EReal)
  refine ⟨h1, h2, fun h => ?_⟩
  rcases h3 with h3 | ⟨t, h3⟩
  · exfalso
    have : mBot = ⊤ := h3.symm.trans h
    rw [mBot_eq] at this
    exact EReal.coe_ne_top _ this
  · exact ⟨t, h3.symm.trans h⟩

/-- The row maximum that stage B takes over the lanes. -/
theorem pay171_apply (mx : Vec Ideal S1x64x128 .f32) (r : Fin 64) (l : Fin 128) :
    k0_pay171 (k0_pay170 mx) (ix2 r l) = Finset.univ.fold max ⊥ fun l : Fin 128 => mx (ix3 0 r l) := by
  rw [← ofBits_bot]
  pointwise [k0_pay171, k0_pay170]

theorem pay1_apply (m lw aw st' : FVec Ideal S64x128 .f32) (vn : FVec Ideal S128x128 .bf16) (sn : Vec Ideal S1x64x128 .f32) (vt : Vec Ideal S1x1x128x128 .bf16)
    (r : Fin 64) (d : Fin 128) :
    k0_pay1 m lw aw vn st' sn vt (ix4 0 0 r d)
      = Ideal.div (aw (ix2 r d) + ∑ j, Ideal.exp2 (st' (ix2 r j)) * vt (ix4 0 0 j d)
          + ∑ j, Ideal.exp2 ((sn (ix3 0 r j) - m (ix2 r j)) * ((Softmax.c2 : ℝ) : EReal)) * vn (ix2 j d))
        (∑ l : Fin 128, (lw (ix2 r l) + Ideal.exp2 (st' (ix2 r l)) + Ideal.exp2 ((sn (ix3 0 r l) - m (ix2 r l)) * ((Softmax.c2 : ℝ) : EReal)))) := by
  pointwise [k0_pay1]
  rw [IdealRules.named_const.ideal_named_scalar _ _ _ _ rfl]
  rfl

theorem pay319_apply (m : FVec Ideal S64x128 .f32) (st : Vec Ideal S1x64x128 .f32) (r : Fin 64) (j : Fin 128) :
    k0_pay319 m st (ix2 r j) = (st (ix3 0 r j) - m (ix2 r j)) * ((Softmax.c2 : ℝ) : EReal) := by
  pointwise [k0_pay319]
  rw [IdealRules.named_const.ideal_named_scalar _ _ _ _ rfl]
  rfl

theorem yW_apply (S E) (a : Fin 2) (X0 X1) (X2 : Vec Ideal S2x64x128 .f32) (ok : SlotOK S E a X0 X1 X2)
    (V : Fin 128 → Fin 16256 → EReal) (W : Fin 128 → Fin 256 → EReal)
    (mx : Vec Ideal S1x64x128 .f32) (s : Fin 31 → Vec Ideal S1x64x512 .f32) (sT : Vec Ideal S1x64x384 .f32)
    (vs vz : Fin 31 → Vec Ideal S1x1x512 .f32) (vc : Fin 31 → Vec Ideal S1x1x64x512 .i8) (vsT vzT : Vec Ideal S1x1x384 .f32)
    (vcT : Vec Ideal S1x1x64x384 .i8) (vn : Vec Ideal S1x1x4x128 .bf16) (st sn : Vec Ideal S1x64x128 .f32) (vt : Vec Ideal S1x1x128x128 .bf16)
    (hm : ∀ r l, mx (ix3 0 r l) = X2 (ix3 a r l))
    (hs : ∀ k r (t : Fin 512), s k (ix3 0 r t) = S r ⟨512 * k.val + t.val, by omega⟩)
    (hsT : ∀ r (t : Fin 384), sT (ix3 0 r t) = S r ⟨15872 + t.val, by omega⟩)
    (hst : ∀ r (j : Fin 128), st (ix3 0 r j) = E r ⟨j.val, by omega⟩)
    (hsn : ∀ r (j : Fin 128), sn (ix3 0 r j) = E r ⟨128 + j.val, by omega⟩)
    (hv : ∀ k d (t : Fin 512), unpackW (vc k) (ix2 d t) * rowW (vs k) (ix2 d t) + rowW (vz k) (ix2 d t) = V d ⟨512 * k.val + t.val, by omega⟩)
    (hvT : ∀ d (t : Fin 384), unpackT vcT (ix2 d t) * rowT vsT (ix2 d t) + rowT vzT (ix2 d t) = V d ⟨15872 + t.val, by omega⟩)
    (hvt : ∀ (j d : Fin 128), vt (ix4 0 0 j d) = W d ⟨j.val, by omega⟩)
    (hvn : ∀ (j d : Fin 128), k0_pay318 (k0_pay311 vn) (k0_pay312 vn) (k0_pay313 vn) (Scalar.ofBits .f32 0x00000000#32) (Scalar.ofBits .f32 0x41700000#32) (ix2 j d)
      = W d ⟨128 + j.val, by omega⟩)
    (r : Fin 64) (d : Fin 128) :
    yW mx s sT vs vz vc vsT vzT vcT vn st sn vt (ix4 0 0 r d) = attn S E V W r d := by
  obtain ⟨mR1, mR2, mR3⟩ := rowM_facts S E r
  obtain ⟨-, mK2, mK3⟩ := fold_max_facts (⊥ : EReal) fun l : Fin 128 => X2 (ix3 a r l)
  have em : ∀ l, k0_pay171 (k0_pay170 mx) (ix2 r l) = Finset.univ.fold max ⊥ fun l : Fin 128 => X2 (ix3 a r l) := fun l => by
    rw [pay171_apply]; simp only [hm]
  generalize (Finset.univ.fold max ⊥ fun l : Fin 128 => X2 (ix3 a r l)) = mK at em mK2 mK3
  unfold attn
  rw [← Softmax.softmax_eq (rowS S E r) (Sum.elim (V d) (W d)) _ mK (rowM S E r) (by rw [← mBot_eq]; exact (ok.mb r 0).trans (mK2 0)) ?_ ?_
    (by rw [← mBot_eq]; exact mR1) mR2 mR3]
  · rw [yW, pay1_apply]
    simp only [Fintype.sum_sum_type, rowS, Sum.elim_inl, Sum.elim_inr, pay319_apply, em, hst, hsn, hvt, hvn]
    refine congrArg₂ Ideal.div ?_ ?_
    · rw [sum_chunks, sum_append 128 128 256 rfl]
      refine Eq.trans (?_ : _ = (_ + _) + _ + _) (add_assoc _ _ _)
      refine congrArg₂ (· + ·) (congrArg₂ (· + ·) ?_ rfl) rfl
      refine Eq.trans (?_ : _ = chain addf (broadcast S64x128 (Scalar.ofBits .f32 0x00000000#32))
        (fun k => accW (probW (k0_pay171 (k0_pay170 mx)) (s k)) (vs k) (vz k) (vc k)) 31 (Nat.le_refl 31) (ix2 r d)
          + accT (probT (k0_pay171 (k0_pay170 mx)) sT) vsT vzT vcT (ix2 r d)) ?_
      · rfl
      · rw [chain_add, accT_apply]
        simp only [accW_apply, probW_apply, probT_apply, hv, hvT, hs, hsT, em]; rfl
    · rw [sum_chunks, sum_append 128 128 256 rfl, ← add_assoc, Finset.sum_add_distrib, Finset.sum_add_distrib]
      refine congrArg₂ (· + ·) (congrArg₂ (· + ·) ?_ rfl) rfl
      refine Eq.trans (Finset.sum_congr rfl fun l _ => (?_ : _ = chain addf (broadcast S64x128 (Scalar.ofBits .f32 0x00000000#32))
        (fun k => laneSumW (probW (k0_pay171 (k0_pay170 mx)) (s k))) 31 (Nat.le_refl 31) (ix2 r l)
          + laneSumT (probT (k0_pay171 (k0_pay170 mx)) sT) (ix2 r l))) ?_
      · rfl
      · rw [Finset.sum_add_distrib, sum_lanesT]
        simp only [sum_lanesW]
        rw [Finset.sum_comm (s := (Finset.univ : Finset (Fin 31)))]
        refine congrArg₂ (· + ·) (Finset.sum_congr rfl fun l _ => ?_) (Finset.sum_congr rfl fun l _ => ?_)
        · rw [chain_add]
          simp only [laneSumW_apply, probW_apply, hs, em]; rfl
        · simp only [laneSumT_apply, probT_apply, hsT, em]; rfl
  · rintro (t | j)
    · exact (ok.mS r t).trans (mK2 _)
    · exact (ok.mE r j).trans (mK2 _)
  · intro h
    rcases mK3 with h3 | ⟨l, h3⟩
    · exact absurd (h3.symm.trans h) (by simp)
    · rcases ok.mt r l (h3.symm.trans h) with ⟨t, ht⟩ | ⟨j, hj⟩
      · exact ⟨.inl t, ht⟩
      · exact ⟨.inr j, hj⟩

end Cert.KernelIdeal.Gen

end
-- ==== Proof.Stage.lean ====
/- Stage A leaves a pair's scores in one slot and spares the other; stage B turns a slot's scores into the output block. -/
module

public import proofs.«01_k».proof.Proof.Attn

@[expose] public section

set_option maxHeartbeats 1000000

noncomputable section

namespace Cert.KernelIdeal.Gen

open Idealize.ShloMosaic

/-- The slot stage A writes at a point, and the one stage B reads. -/
def slA (i : grid0.Coords) : Fin 2 := ⟨(i 0).val % 2, by omega⟩
def slB (i : grid0.Coords) : Fin 2 := ⟨1 - (i 0).val % 2, by omega⟩

theorem slB_ne (i : grid0.Coords) : (slB i).val ≠ (i 0).val % 2 := by
  simp only [slB]; omega

section Slots
variable (i : grid0.Coords) {sp : Space}
  (v0 : View sig .tc sp S2x64x16256 .f32) (f0 : v0.ty.Contents (Elt Ideal))
  (v1 : View sig .tc sp S2x64x256 .f32) (f1 : v1.ty.Contents (Elt Ideal))
  (v2 : View sig .tc sp S2x64x128 .f32) (f2 : v2.ty.Contents (Elt Ideal))

theorem slot_fill (q : FVec Ideal S64x128 .bf16) (x0 : Vec Ideal S1x1x64x128 .bf16) (hq : ∀ r d, q (ix2 r d) = x0 (ix4 0 0 r d))
    (s : Fin 31 → FVec Ideal S64x512 .f32) (sT : FVec Ideal S64x384 .f32) (S : Fin 64 → Fin 16256 → EReal)
    (hs : ∀ k r (t : Fin 512), s k (ix2 r t) = S r ⟨512 * k.val + t.val, by omega⟩)
    (hT : ∀ r (t : Fin 384), sT (ix2 r t) = S r ⟨15872 + t.val, by omega⟩) (kn kt b0 b1 b2) :
    SlotOK S (ownS x0 kt kn) (slA i) (v0.read (Elt Ideal) (v0.writes (Elt Ideal) f0 (sPcs i s sT b0)))
      (v1.read (Elt Ideal) (v1.writes (Elt Ideal) f1 (ePcs i q kn kt b1)))
      (v2.read (Elt Ideal) (v2.writes (Elt Ideal) f2 (mPcs i q s sT kn kt b2))) where
  s r t := sPcs_hit i v0 f0 s sT b0 (slA i) rfl S hs hT r t
  e r j := ePcs_hit i v1 f1 q x0 hq kn kt b1 (slA i) rfl r j
  mS r t := by
    rw [mPcs_hit i v2 f2 q x0 hq s sT kn kt b2 (slA i) rfl]
    exact ((maxW_spec s sT S hs hT r _).2.1 t rfl).trans (le_max_left _ _)
  mE r j := by
    rw [mPcs_hit i v2 f2 q x0 hq s sT kn kt b2 (slA i) rfl]
    refine le_trans ?_ (le_max_right _ _)
    rcases Nat.lt_or_ge j.val 128 with h | h
    · exact (le_of_eq (congrArg _ (Fin.ext (by simp only []; omega)))).trans (le_max_left _ _)
    · exact (le_of_eq (congrArg _ (Fin.ext (by simp only []; omega)))).trans (le_max_right _ _)
  mb r l := by
    rw [mPcs_hit i v2 f2 q x0 hq s sT kn kt b2 (slA i) rfl]
    exact (maxW_spec s sT S hs hT r l).1.trans (le_max_left _ _)
  mt r l h := by
    rw [mPcs_hit i v2 f2 q x0 hq s sT kn kt b2 (slA i) rfl] at h
    rcases max_eq_top.mp h with h | h
    · rcases (maxW_spec s sT S hs hT r l).2.2 with h' | ⟨t, h'⟩
      · rw [h', mBot_eq] at h; exact absurd h (EReal.coe_ne_top _)
      · exact Or.inl ⟨t, h'.symm.trans h⟩
    · rcases max_eq_top.mp h with h | h
      · exact Or.inr ⟨_, h⟩
      · exact Or.inr ⟨_, h⟩

theorem slot_congr {S E} {a : Fin 2} {X0 X0' X1 X1'} {X2 X2' : Vec Ideal S2x64x128 .f32} (ok : SlotOK S E a X0 X1 X2)
    (h0 : ∀ r t, X0' (ix3 a r t) = X0 (ix3 a r t)) (h1 : ∀ r t, X1' (ix3 a r t) = X1 (ix3 a r t)) (h2 : ∀ r t, X2' (ix3 a r t) = X2 (ix3 a r t)) :
    SlotOK S E a X0' X1' X2' where
  s r t := (h0 r t).trans (ok.s r t)
  e r t := (h1 r t).trans (ok.e r t)
  mS r t := by rw [h2]; exact ok.mS r t
  mE r t := by rw [h2]; exact ok.mE r t
  mb r t := by rw [h2]; exact ok.mb r t
  mt r t := by rw [h2]; exact ok.mt r t

/-- Stage A's stores over `b0`, `b1`, `b2` leave stage B's slot as these leave it. -/
theorem slot_miss (q : FVec Ideal S64x128 .bf16) (s : Fin 31 → FVec Ideal S64x512 .f32) (sT : FVec Ideal S64x384 .f32) (kn kt b0 b1 b2) (S E)
    (ok : SlotOK S E (slB i) (v0.read (Elt Ideal) (v0.writes (Elt Ideal) f0 b0)) (v1.read (Elt Ideal) (v1.writes (Elt Ideal) f1 b1))
      (v2.read (Elt Ideal) (v2.writes (Elt Ideal) f2 b2))) :
    SlotOK S E (slB i) (v0.read (Elt Ideal) (v0.writes (Elt Ideal) f0 (sPcs i s sT b0)))
      (v1.read (Elt Ideal) (v1.writes (Elt Ideal) f1 (ePcs i q kn kt b1)))
      (v2.read (Elt Ideal) (v2.writes (Elt Ideal) f2 (mPcs i q s sT kn kt b2))) :=
  slot_congr ok (fun r t => sPcs_miss i v0 f0 s sT b0 _ (slB_ne i) r t) (fun r j => ePcs_miss i v1 f1 q kn kt b1 _ (slB_ne i) r j)
    (fun r l => mPcs_miss i v2 f2 q s sT kn kt b2 _ (slB_ne i) r l)

theorem mBot_le : mBot ≤ 0 := by
  rw [mBot_eq]; exact_mod_cast (by norm_num : (-1000000015047466219876688855040 : ℝ) ≤ 0)

theorem slot_zero (hi : (i 0).val % 2 = 0) :
    SlotOK (fun _ _ => 0) (fun _ _ => 0) (slB i) (v0.read (Elt Ideal) (v0.writes (Elt Ideal) f0 [zP0])) (v1.read (Elt Ideal) (v1.writes (Elt Ideal) f1 [zP1]))
      (v2.read (Elt Ideal) (v2.writes (Elt Ideal) f2 [zP2])) := by
  have ha : slB i = 1 := Fin.ext (by simp only [slB, hi]; rfl)
  rw [ha]
  have h2 : ∀ r l, v2.read (Elt Ideal) (v2.writes (Elt Ideal) f2 [zP2]) (ix3 1 r l) = 0 := fun r l => by
    unfold zP2
    refine Eq.trans (View.read_writes_cons_unit_of_mem v2 f2 _ _ _ _ (ix3 0 r l) rfl (fun b => by fin_cases b <;> simp [ix3])) ?_
    pointwise [k0_pay4]
  refine ⟨fun r t => ?_, fun r j => ?_, fun r t => (h2 r _).ge, fun r t => (h2 r _).ge, fun r l => mBot_le.trans (h2 r l).ge, fun r l h => ?_⟩
  · unfold zP0
    refine Eq.trans (View.read_writes_cons_unit_of_mem v0 f0 _ _ _ _ (ix3 0 r t) rfl (fun b => by fin_cases b <;> simp [ix3])) ?_
    pointwise [k0_pay2]
  · unfold zP1
    refine Eq.trans (View.read_writes_cons_unit_of_mem v1 f1 _ _ _ _ (ix3 0 r j) rfl (fun b => by fin_cases b <;> simp [ix3])) ?_
    pointwise [k0_pay3]
  · rw [h2] at h; exact absurd h.symm EReal.top_ne_zero

end Slots

/-! Stage B. -/

/-- A new value's channel, once quantised and read back; zero past the fourth token. -/
def newV (vn : Vec Ideal S1x1x4x128 .bf16) (j : ℕ) (d : Fin 128) : EReal :=
  if h : j < 4 then qcd (vrow vn ⟨j, h⟩) (vrow vn ⟨j, h⟩ d) * qsc (vrow vn ⟨j, h⟩) + qlo (vrow vn ⟨j, h⟩) else 0

/-- The step's own values: the tail's, then the new ones. -/
def ownV (x9 : Vec Ideal S1x1x128x128 .bf16) (x11 : Vec Ideal S1x1x4x128 .bf16) (d : Fin 128) (j : Fin 256) : EReal :=
  if h : j.val < 128 then x9 (ix4 0 0 ⟨j.val, h⟩ d) else newV x11 (j.val - 128) d

/-- The output block at a point, from the scores `S`, `E` found in stage B's slot. -/
def yVal (i : grid0.Coords) (S : Fin 64 → Fin 16256 → EReal) (E : Fin 64 → Fin 256 → EReal) (x5 : Vec Ideal S1x1x64x16256 .i8)
    (x6 x7 : Vec Ideal S1x2x16256 .f32) (x9 : Vec Ideal S1x1x128x128 .bf16) (x11 : Vec Ideal S1x1x4x128 .bf16) : Vec Ideal S1x1x64x128 .bf16 :=
  fun y => attn S E (valV x5 x6 x7 ⟨((i 0).val - 1) % 2, by omega⟩) (ownV x9 x11) ⟨(y 2).val, (y 2).isLt⟩ ⟨(y 3).val, (y 3).isLt⟩

theorem ix4_eta (y : S1x1x64x128.Idx) : y = ix4 0 0 (⟨(y 2).val, (y 2).isLt⟩ : Fin 64) (⟨(y 3).val, (y 3).isLt⟩ : Fin 128) := by
  funext a
  fin_cases a
  · exact Fin.ext (Nat.lt_one_iff.mp (y 0).isLt)
  · exact Fin.ext (Nat.lt_one_iff.mp (y 1).isLt)
  · rfl
  · rfl

theorem yW_eq (i : grid0.Coords) (arg6 harg6 x5 arg7 harg7 x6 arg8 harg8 x7 arg10 harg10 x9 arg12 harg12 x11)
    (arg21 : Memref sig .tc .vmem S2x64x16256 .f32) (f0 : arg21.view.ty.Contents (Elt Ideal))
    (arg22 : Memref sig .tc .vmem S2x64x256 .f32) (f1 : arg22.view.ty.Contents (Elt Ideal))
    (arg23 : Memref sig .tc .vmem S2x64x128 .f32) (f2 : arg23.view.ty.Contents (Elt Ideal)) (S E)
    (ok : SlotOK S E (slB i) (arg21.view.read (Elt Ideal) f0) (arg22.view.read (Elt Ideal) f1) (arg23.view.read (Elt Ideal) f2)) :
    yW (F := Ideal) (ldM i arg23 f2) (ldS i arg21 f0) (ldST i arg21 f0) (ldV i arg7 harg7 x6) (ldV i arg8 harg8 x7) (ldC arg6 harg6 x5)
      (ldVT i arg7 harg7 x6) (ldVT i arg8 harg8 x7) (ldCT arg6 harg6 x5) (ldN arg12 harg12 x11)
      (ldE (k0_off133 i) (k0_off133_inb i) arg22 f1) (ldE (k0_off134 i) (k0_off134_inb i) arg22 f1) (ldT arg10 harg10 x9)
      = yVal i S E x5 x6 x7 x9 x11 := by
  funext y
  rw [ix4_eta y]
  generalize (⟨(y 2).val, (y 2).isLt⟩ : Fin 64) = r
  generalize (⟨(y 3).val, (y 3).isLt⟩ : Fin 128) = d
  refine yW_apply S E (slB i) _ _ _ ok _ (ownV x9 x11) _ _ _ _ _ _ _ _ _ _ _ _ _ (fun r l => ?_) (fun k r t => ?_) (fun r t => ?_) (fun r j => ?_) (fun r j => ?_)
    (fun k d t => ?_) (fun d t => ?_) (fun j d => ?_) (fun j d => ?_) r d
  · refine rd_unit _ _ _ _ _ _ _ fun a => Eq.trans ?_ (congrArg (· + _) (congrFun (k0_off68_eq i) a).symm)
    fin_cases a <;> simp [ix3, slB]
  · refine Eq.trans (rd_unit _ _ _ _ _ _ _ fun a => Eq.trans ?_ (congrArg (· + _) (congrFun (offL_eq i k) a).symm)) (ok.s r _)
    fin_cases a <;> simp [ix3, slB]
  · refine Eq.trans (rd_unit _ _ _ _ _ _ _ fun a => Eq.trans ?_ (congrArg (· + _) (congrFun (k0_off131_eq i) a).symm)) (ok.s r _)
    fin_cases a <;> simp [ix3, slB]
  · refine Eq.trans (rd_unit _ _ _ _ _ _ _ fun a => Eq.trans ?_ (congrArg (· + _) (congrFun (k0_off133_eq i) a).symm)) (ok.e r _)
    fin_cases a <;> simp [ix3, slB]
  · refine Eq.trans (rd_unit _ _ _ _ _ _ _ fun a => Eq.trans ?_ (congrArg (· + _) (congrFun (k0_off134_eq i) a).symm)) (ok.e r _)
    fin_cases a <;> simp [ix3, slB]
  · rw [unpackW_apply, rowW_apply, rowW_apply, ldC_apply, ldV_apply, ldV_apply]; rfl
  · rw [unpackT_apply, rowT_apply, rowT_apply, ldCT_apply, ldVT_apply, ldVT_apply]; rfl
  · rw [ldT_eq]; unfold ownV; rw [dif_pos (show j.val < 128 from j.isLt)]
  · rw [ldN_eq, pay318_apply]; unfold ownV newV
    simp only [dif_neg (show ¬128 + j.val < 128 by omega), Nat.add_sub_cancel_left]

end Cert.KernelIdeal.Gen

end
-- ==== Proof.Runs.lean ====
/- The body's branch condition in closed form, its staging memrefs and its scratch operands, spelled for the run. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1x64x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x64x16256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x508x2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x508x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x16256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x16256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x16256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x4x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x4x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x64 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x64x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x4x64 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x4x64 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x4x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x4x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S2x64x16256 .f32 := Memref.whole cc0_scratch0
abbrev scM0_1 : Memref sig .tc .vmem S2x64x256 .f32 := Memref.whole cc0_scratch1
abbrev scM0_2 : Memref sig .tc .vmem S2x64x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunB.lean ====
/- The body's run at a later point: what each output block and each scratch buffer holds after it, as the pieces
   stored there over what it held before. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body run on whole staging memrefs: the inputs' at their contents `x·`, the outputs' at anything, the scratch at
    `s·`; it ends with the inputs unchanged, and each output and scratch buffer holding the pieces `p·` stored over what
    it held. -/
def Spec0 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32)
    (p14 : List (View.Piece (Elt F) S1x1x64x128 .bf16)) (p15 : List (View.Piece (Elt F) S1x1x4x64 .i8)) (p16 : List (View.Piece (Elt F) S1x1x1x128 .f32)) (p17 : List (View.Piece (Elt F) S1x1x1x128 .f32)) (p18 : List (View.Piece (Elt F) S1x1x4x64 .i8)) (p19 : List (View.Piece (Elt F) S1x1x4x128 .f32)) (p20 : List (View.Piece (Elt F) S1x1x4x128 .f32)) (p21 : List (View.Piece (Elt F) S2x64x16256 .f32)) (p22 : List (View.Piece (Elt F) S2x64x256 .f32)) (p23 : List (View.Piece (Elt F) S2x64x128 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s0 ∗ owns (c : Thread nD τ) arg22 fullShare s1 ∗ owns (c : Thread nD τ) arg23 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, View.loc (c : Thread nD τ) arg14.view ↦[arg14.view.set]{fullShare} arg14.view.writes (Elt F) f p14) ∗ (∃ f, View.loc (c : Thread nD τ) arg15.view ↦[arg15.view.set]{fullShare} arg15.view.writes (Elt F) f p15) ∗ (∃ f, View.loc (c : Thread nD τ) arg16.view ↦[arg16.view.set]{fullShare} arg16.view.writes (Elt F) f p16) ∗ (∃ f, View.loc (c : Thread nD τ) arg17.view ↦[arg17.view.set]{fullShare} arg17.view.writes (Elt F) f p17) ∗ (∃ f, View.loc (c : Thread nD τ) arg18.view ↦[arg18.view.set]{fullShare} arg18.view.writes (Elt F) f p18) ∗ (∃ f, View.loc (c : Thread nD τ) arg19.view ↦[arg19.view.set]{fullShare} arg19.view.writes (Elt F) f p19) ∗ (∃ f, View.loc (c : Thread nD τ) arg20.view ↦[arg20.view.set]{fullShare} arg20.view.writes (Elt F) f p20) ∗ (View.loc (c : Thread nD τ) arg21.view ↦[arg21.view.set]{fullShare} arg21.view.writes (Elt F) (harg21.unread s0) p21) ∗ (View.loc (c : Thread nD τ) arg22.view ↦[arg22.view.set]{fullShare} arg22.view.writes (Elt F) (harg22.unread s1) p22) ∗ (View.loc (c : Thread nD τ) arg23.view ↦[arg23.view.set]{fullShare} arg23.view.writes (Elt F) (harg23.unread s2) p23)) -∗ K ⟨⟩))
      ⊢ wp frame (wpE (defs₀ (F := F)) Variants.none c none) E (cc0_kivi4_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K

set_option maxHeartbeats 4000000 in
/-- The pieces stored by the body at a later point, with the run that stores them. -/
def runB (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    { p : List (View.Piece (Elt F) S1x1x64x128 .bf16) × List (View.Piece (Elt F) S1x1x4x64 .i8) × List (View.Piece (Elt F) S1x1x1x128 .f32) × List (View.Piece (Elt F) S1x1x1x128 .f32) × List (View.Piece (Elt F) S1x1x4x64 .i8) × List (View.Piece (Elt F) S1x1x4x128 .f32) × List (View.Piece (Elt F) S1x1x4x128 .f32) × List (View.Piece (Elt F) S2x64x16256 .f32) × List (View.Piece (Elt F) S2x64x256 .f32) × List (View.Piece (Elt F) S2x64x128 .f32) //
      Spec0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2 } := by
  refine ⟨(?_, ?_, ?_, ?_, ?_, ?_, ?_, ?_, ?_, ?_), ?_⟩
  rotate_right
  · unfold Spec0
    intro E K
    dsimp only
    simp only [cc0_kivi4_attention_eq_skeleton]; unfold cc0_kivi4_attention_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hfs0; obtain rfl := harg22.eq_unread hfs1; obtain rfl := harg23.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [HS0]; · iexact HS0
    isplitl [HS1]; · iexact HS1
    iexact HS2

end Cert.KernelIdeal.Gen

end
-- ==== Proof.RunA.lean ====
/- The body's run at the first point: what each output block and each scratch buffer holds after it, as the pieces
   stored there over what it held before. -/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces stored by the body at the first point, with the run that stores them. -/
def runA (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    { p : List (View.Piece (Elt F) S1x1x64x128 .bf16) × List (View.Piece (Elt F) S1x1x4x64 .i8) × List (View.Piece (Elt F) S1x1x1x128 .f32) × List (View.Piece (Elt F) S1x1x1x128 .f32) × List (View.Piece (Elt F) S1x1x4x64 .i8) × List (View.Piece (Elt F) S1x1x4x128 .f32) × List (View.Piece (Elt F) S1x1x4x128 .f32) × List (View.Piece (Elt F) S2x64x16256 .f32) × List (View.Piece (Elt F) S2x64x256 .f32) × List (View.Piece (Elt F) S2x64x128 .f32) //
      Spec0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2 } := by
  refine ⟨(?_, ?_, ?_, ?_, ?_, ?_, ?_, ?_, ?_, ?_), ?_⟩
  rotate_right
  · unfold Spec0
    intro E K
    dsimp only
    simp only [cc0_kivi4_attention_eq_skeleton]; unfold cc0_kivi4_attention_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hfs0; obtain rfl := harg22.eq_unread hfs1; obtain rfl := harg23.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [HS0]; · iexact HS0
    isplitl [HS1]; · iexact HS1
    iexact HS2

end Cert.KernelIdeal.Gen

end
-- ==== Proof.PiecesA.lean ====
/- What the body's run stores, in the chunk loops' words. -/
module

public import proofs.«01_k».proof.Proof.Loads
public import proofs.«01_k».proof.Proof.RunA

@[expose] public section

set_option maxRecDepth 16384
set_option maxHeartbeats 8000000

noncomputable section

namespace Cert.KernelIdeal.Gen

open Idealize.ShloMosaic

variable {F : FTy → Type} [FloatOps F] [Named F]

theorem runA_p14 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.1 =
      [⟨Rect.unit (s := S1x1x64x128) ![0, 0, 0, 0] S1x1x64x128.size inb_S1x1x64x128_S1x1x64x128_0_0_0_0, yW (ldM i arg23 (arg23.view.writes (Elt F) (harg23.unread s2) (mPcs i (qW arg1 harg1 x0) (scA i arg1 harg1 x0 arg3 harg3 x2 arg4 harg4 x3 arg5 harg5 x4) (scT i arg1 harg1 x0 arg3 harg3 x2 arg4 harg4 x3 arg5 harg5 x4) (ldN arg11 harg11 x10) (ldT arg9 harg9 x8) [zP2])))
          (ldS i arg21 (arg21.view.writes (Elt F) (harg21.unread s0) (sPcs i (scA i arg1 harg1 x0 arg3 harg3 x2 arg4 harg4 x3 arg5 harg5 x4) (scT i arg1 harg1 x0 arg3 harg3 x2 arg4 harg4 x3 arg5 harg5 x4) [zP0])))
          (ldST i arg21 (arg21.view.writes (Elt F) (harg21.unread s0) (sPcs i (scA i arg1 harg1 x0 arg3 harg3 x2 arg4 harg4 x3 arg5 harg5 x4) (scT i arg1 harg1 x0 arg3 harg3 x2 arg4 harg4 x3 arg5 harg5 x4) [zP0])))
          (ldV i arg7 harg7 x6) (ldV i arg8 harg8 x7) (ldC arg6 harg6 x5) (ldVT i arg7 harg7 x6) (ldVT i arg8 harg8 x7) (ldCT arg6 harg6 x5) (ldN arg12 harg12 x11)
          (ldE (k0_off133 i) (k0_off133_inb i) arg22 (arg22.view.writes (Elt F) (harg22.unread s1) (ePcs i (qW arg1 harg1 x0) (ldN arg11 harg11 x10) (ldT arg9 harg9 x8) [zP1])))
          (ldE (k0_off134 i) (k0_off134_inb i) arg22 (arg22.view.writes (Elt F) (harg22.unread s1) (ePcs i (qW arg1 harg1 x0) (ldN arg11 harg11 x10) (ldT arg9 harg9 x8) [zP1])))
          (ldT arg10 harg10 x9)⟩] := rfl

theorem runA_p15 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.1 =
      [⟨Rect.unit (s := S1x1x4x64) ![0, 0, 0, 0] S1x1x4x64.size inb_S1x1x4x64_S1x1x4x64_0_0_0_0, k0_pay164 (k0_pay163 (ldN arg11 harg11 x10) (ldPk arg13 harg13 x12))⟩] := rfl

theorem runA_p16 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.1 =
      [⟨Rect.unit (s := S1x1x1x128) ![0, 0, 0, 0] S1x1x1x128.size inb_S1x1x1x128_S1x1x1x128_0_0_0_0, k0_pay161 (ldN arg11 harg11 x10)⟩] := rfl

theorem runA_p17 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.1 =
      [⟨Rect.unit (s := S1x1x1x128) ![0, 0, 0, 0] S1x1x1x128.size inb_S1x1x1x128_S1x1x1x128_0_0_0_0, k0_pay162 (ldN arg11 harg11 x10)⟩] := rfl

theorem runA_p18 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.1 =
      [⟨Rect.unit (s := S1x1x4x64) ![0, 0, 0, 0] S1x1x4x64.size inb_S1x1x4x64_S1x1x4x64_0_0_0_0, k0_pay317 (k0_pay313 (ldN arg12 harg12 x11)) (Scalar.ofBits .f32 0x00000000#32) (Scalar.ofBits .f32 0x41700000#32) (ldPk arg13 harg13 x12)⟩] := rfl

theorem runA_p19 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.1 =
      [⟨Rect.unit (s := S1x1x4x128) ![0, 0, 0, 0] S1x1x4x128.size inb_S1x1x4x128_S1x1x4x128_0_0_0_0, k0_pay315 (k0_pay312 (ldN arg12 harg12 x11))⟩] := rfl

theorem runA_p20 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.1 =
      [⟨Rect.unit (s := S1x1x4x128) ![0, 0, 0, 0] S1x1x4x128.size inb_S1x1x4x128_S1x1x4x128_0_0_0_0, k0_pay316 (k0_pay311 (ldN arg12 harg12 x11))⟩] := rfl

theorem runA_p21 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.1 =
      sPcs i (scA i arg1 harg1 x0 arg3 harg3 x2 arg4 harg4 x3 arg5 harg5 x4) (scT i arg1 harg1 x0 arg3 harg3 x2 arg4 harg4 x3 arg5 harg5 x4) [zP0] := rfl

theorem runA_p22 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.2.1 =
      ePcs i (qW arg1 harg1 x0) (ldN arg11 harg11 x10) (ldT arg9 harg9 x8) [zP1] := rfl

theorem runA_p23 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.2.2 =
      mPcs i (qW arg1 harg1 x0) (scA i arg1 harg1 x0 arg3 harg3 x2 arg4 harg4 x3 arg5 harg5 x4) (scT i arg1 harg1 x0 arg3 harg3 x2 arg4 harg4 x3 arg5 harg5 x4) (ldN arg11 harg11 x10) (ldT arg9 harg9 x8) [zP2] := rfl

end Cert.KernelIdeal.Gen

end
-- ==== Proof.PiecesB.lean ====
/- What the body's run stores, in the chunk loops' words. -/
module

public import proofs.«01_k».proof.Proof.Loads
public import proofs.«01_k».proof.Proof.RunB

@[expose] public section

set_option maxRecDepth 16384
set_option maxHeartbeats 8000000

noncomputable section

namespace Cert.KernelIdeal.Gen

open Idealize.ShloMosaic

variable {F : FTy → Type} [FloatOps F] [Named F]

theorem runB_p14 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.1 =
      [⟨Rect.unit (s := S1x1x64x128) ![0, 0, 0, 0] S1x1x64x128.size inb_S1x1x64x128_S1x1x64x128_0_0_0_0, yW (ldM i arg23 (arg23.view.writes (Elt F) (harg23.unread s2) (mPcs i (qW arg1 harg1 x0) (scA i arg1 harg1 x0 arg3 harg3 x2 arg4 harg4 x3 arg5 harg5 x4) (scT i arg1 harg1 x0 arg3 harg3 x2 arg4 harg4 x3 arg5 harg5 x4) (ldN arg11 harg11 x10) (ldT arg9 harg9 x8) [])))
          (ldS i arg21 (arg21.view.writes (Elt F) (harg21.unread s0) (sPcs i (scA i arg1 harg1 x0 arg3 harg3 x2 arg4 harg4 x3 arg5 harg5 x4) (scT i arg1 harg1 x0 arg3 harg3 x2 arg4 harg4 x3 arg5 harg5 x4) [])))
          (ldST i arg21 (arg21.view.writes (Elt F) (harg21.unread s0) (sPcs i (scA i arg1 harg1 x0 arg3 harg3 x2 arg4 harg4 x3 arg5 harg5 x4) (scT i arg1 harg1 x0 arg3 harg3 x2 arg4 harg4 x3 arg5 harg5 x4) [])))
          (ldV i arg7 harg7 x6) (ldV i arg8 harg8 x7) (ldC arg6 harg6 x5) (ldVT i arg7 harg7 x6) (ldVT i arg8 harg8 x7) (ldCT arg6 harg6 x5) (ldN arg12 harg12 x11)
          (ldE (k0_off133 i) (k0_off133_inb i) arg22 (arg22.view.writes (Elt F) (harg22.unread s1) (ePcs i (qW arg1 harg1 x0) (ldN arg11 harg11 x10) (ldT arg9 harg9 x8) [])))
          (ldE (k0_off134 i) (k0_off134_inb i) arg22 (arg22.view.writes (Elt F) (harg22.unread s1) (ePcs i (qW arg1 harg1 x0) (ldN arg11 harg11 x10) (ldT arg9 harg9 x8) [])))
          (ldT arg10 harg10 x9)⟩] := rfl

theorem runB_p15 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.1 =
      [⟨Rect.unit (s := S1x1x4x64) ![0, 0, 0, 0] S1x1x4x64.size inb_S1x1x4x64_S1x1x4x64_0_0_0_0, k0_pay164 (k0_pay163 (ldN arg11 harg11 x10) (ldPk arg13 harg13 x12))⟩] := rfl

theorem runB_p16 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.1 =
      [⟨Rect.unit (s := S1x1x1x128) ![0, 0, 0, 0] S1x1x1x128.size inb_S1x1x1x128_S1x1x1x128_0_0_0_0, k0_pay161 (ldN arg11 harg11 x10)⟩] := rfl

theorem runB_p17 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.1 =
      [⟨Rect.unit (s := S1x1x1x128) ![0, 0, 0, 0] S1x1x1x128.size inb_S1x1x1x128_S1x1x1x128_0_0_0_0, k0_pay162 (ldN arg11 harg11 x10)⟩] := rfl

theorem runB_p18 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.1 =
      [⟨Rect.unit (s := S1x1x4x64) ![0, 0, 0, 0] S1x1x4x64.size inb_S1x1x4x64_S1x1x4x64_0_0_0_0, k0_pay317 (k0_pay313 (ldN arg12 harg12 x11)) (Scalar.ofBits .f32 0x00000000#32) (Scalar.ofBits .f32 0x41700000#32) (ldPk arg13 harg13 x12)⟩] := rfl

theorem runB_p19 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.1 =
      [⟨Rect.unit (s := S1x1x4x128) ![0, 0, 0, 0] S1x1x4x128.size inb_S1x1x4x128_S1x1x4x128_0_0_0_0, k0_pay315 (k0_pay312 (ldN arg12 harg12 x11))⟩] := rfl

theorem runB_p20 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.1 =
      [⟨Rect.unit (s := S1x1x4x128) ![0, 0, 0, 0] S1x1x4x128.size inb_S1x1x4x128_S1x1x4x128_0_0_0_0, k0_pay316 (k0_pay311 (ldN arg12 harg12 x11))⟩] := rfl

theorem runB_p21 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.1 =
      sPcs i (scA i arg1 harg1 x0 arg3 harg3 x2 arg4 harg4 x3 arg5 harg5 x4) (scT i arg1 harg1 x0 arg3 harg3 x2 arg4 harg4 x3 arg5 harg5 x4) [] := rfl

theorem runB_p22 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.2.1 =
      ePcs i (qW arg1 harg1 x0) (ldN arg11 harg11 x10) (ldT arg9 harg9 x8) [] := rfl

theorem runB_p23 (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec F S1x1x64x128 .bf16) (x1 : Vec F S1x1x64x128 .bf16) (x2 : Vec F S1x1x64x16256 .i8) (x3 : Vec F S1x508x2x128 .f32) (x4 : Vec F S1x508x2x128 .f32) (x5 : Vec F S1x1x64x16256 .i8) (x6 : Vec F S1x2x16256 .f32) (x7 : Vec F S1x2x16256 .f32) (x8 : Vec F S1x1x128x128 .bf16) (x9 : Vec F S1x1x128x128 .bf16) (x10 : Vec F S1x1x4x128 .bf16) (x11 : Vec F S1x1x4x128 .bf16) (x12 : Vec F S128x64 .bf16)
    (s0 : Vec F S2x64x16256 .f32) (s1 : Vec F S2x64x256 .f32) (s2 : Vec F S2x64x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).1.2.2.2.2.2.2.2.2.2 =
      mPcs i (qW arg1 harg1 x0) (scA i arg1 harg1 x0 arg3 harg3 x2 arg4 harg4 x3 arg5 harg5 x4) (scT i arg1 harg1 x0 arg3 harg3 x2 arg4 harg4 x3 arg5 harg5 x4) (ldN arg11 harg11 x10) (ldT arg9 harg9 x8) [] := rfl

end Cert.KernelIdeal.Gen

end
-- ==== Proof.Exact.lean ====
/- The body's run at a point, with the values it leaves: each output block at its value, and the pair's scores in stage A's slot. -/
module

public import proofs.«01_k».proof.Proof.Stage
public import proofs.«01_k».proof.Proof.PiecesA
public import proofs.«01_k».proof.Proof.PiecesB

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A block stored whole reads back as stored. -/
theorem read_full {sp : Space} {s : Shape} {e : EltTy} (v : View sig .tc sp s e) (f : v.ty.Contents (Elt Ideal)) (off : Fin s.rank → ℕ) (h0 : ∀ a, off a = 0)
    (inb : ∀ a, off a + s.size a ≤ s.size a) (w : s.Idx → Elt Ideal e) :
    v.read (Elt Ideal) (v.writes (Elt Ideal) f [⟨Rect.unit off s.size inb, w⟩]) = w := by
  funext y
  exact View.read_writes_cons_unit_of_mem v f inb w [] y y rfl fun a => by rw [h0 a, Nat.zero_add]

/-- The body run on whole staging memrefs: the inputs at `x·`, the scratch at `s·`; it ends with the inputs unchanged, the
    outputs at their values, of which the first is the attention of the scores `S`, `E`, and the point's own scores in
    stage A's slot. -/
def ExactSpec (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole)
    (x0 : Vec Ideal S1x1x64x128 .bf16) (x1 : Vec Ideal S1x1x64x128 .bf16) (x2 : Vec Ideal S1x1x64x16256 .i8) (x3 : Vec Ideal S1x508x2x128 .f32) (x4 : Vec Ideal S1x508x2x128 .f32) (x5 : Vec Ideal S1x1x64x16256 .i8) (x6 : Vec Ideal S1x2x16256 .f32) (x7 : Vec Ideal S1x2x16256 .f32) (x8 : Vec Ideal S1x1x128x128 .bf16) (x9 : Vec Ideal S1x1x128x128 .bf16) (x10 : Vec Ideal S1x1x4x128 .bf16) (x11 : Vec Ideal S1x1x4x128 .bf16) (x12 : Vec Ideal S128x64 .bf16)
    (s0 : Vec Ideal S2x64x16256 .f32) (s1 : Vec Ideal S2x64x256 .f32) (s2 : Vec Ideal S2x64x128 .f32) (S : Fin 64 → Fin 16256 → EReal) (E : Fin 64 → Fin 256 → EReal) : Prop :=
  ∀ (M : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s0 ∗ owns (c : Thread nD τ) arg22 fullShare s1 ∗ owns (c : Thread nD τ) arg23 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (yVal i S E x5 x6 x7 x9 x11) ∗ owns (c : Thread nD τ) arg15 fullShare (k0_pay164 (k0_pay163 x10 x12)) ∗ owns (c : Thread nD τ) arg16 fullShare (k0_pay161 x10) ∗ owns (c : Thread nD τ) arg17 fullShare (k0_pay162 x10) ∗ owns (c : Thread nD τ) arg18 fullShare (k0_pay317 (k0_pay313 x11) (Scalar.ofBits .f32 0x00000000#32) (Scalar.ofBits .f32 0x41700000#32) x12) ∗ owns (c : Thread nD τ) arg19 fullShare (k0_pay315 (k0_pay312 x11)) ∗ owns (c : Thread nD τ) arg20 fullShare (k0_pay316 (k0_pay311 x11)) ∗ (∃ X0 X1 X2, ⌜SlotOK (cacheS i x0 x2 x3 x4) (ownS x0 x8 x10) (slA i) X0 X1 X2⌝ ∗ owns (c : Thread nD τ) arg21 fullShare X0 ∗ owns (c : Thread nD τ) arg22 fullShare X1 ∗ owns (c : Thread nD τ) arg23 fullShare X2)) -∗ K ⟨⟩))
      ⊢ wp frame (wpE (defs₀ (F := Ideal)) Variants.none c none) M (cc0_kivi4_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K

theorem exact_of_spec (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole)
    (x0 : Vec Ideal S1x1x64x128 .bf16) (x1 : Vec Ideal S1x1x64x128 .bf16) (x2 : Vec Ideal S1x1x64x16256 .i8) (x3 : Vec Ideal S1x508x2x128 .f32) (x4 : Vec Ideal S1x508x2x128 .f32) (x5 : Vec Ideal S1x1x64x16256 .i8) (x6 : Vec Ideal S1x2x16256 .f32) (x7 : Vec Ideal S1x2x16256 .f32) (x8 : Vec Ideal S1x1x128x128 .bf16) (x9 : Vec Ideal S1x1x128x128 .bf16) (x10 : Vec Ideal S1x1x4x128 .bf16) (x11 : Vec Ideal S1x1x4x128 .bf16) (x12 : Vec Ideal S128x64 .bf16)
    (s0 : Vec Ideal S2x64x16256 .f32) (s1 : Vec Ideal S2x64x256 .f32) (s2 : Vec Ideal S2x64x128 .f32) (S : Fin 64 → Fin 16256 → EReal) (E : Fin 64 → Fin 256 → EReal)
    (p14 : List (View.Piece (Elt Ideal) S1x1x64x128 .bf16)) (p15 : List (View.Piece (Elt Ideal) S1x1x4x64 .i8)) (p16 : List (View.Piece (Elt Ideal) S1x1x1x128 .f32)) (p17 : List (View.Piece (Elt Ideal) S1x1x1x128 .f32)) (p18 : List (View.Piece (Elt Ideal) S1x1x4x64 .i8)) (p19 : List (View.Piece (Elt Ideal) S1x1x4x128 .f32)) (p20 : List (View.Piece (Elt Ideal) S1x1x4x128 .f32)) (p21 : List (View.Piece (Elt Ideal) S2x64x16256 .f32)) (p22 : List (View.Piece (Elt Ideal) S2x64x256 .f32)) (p23 : List (View.Piece (Elt Ideal) S2x64x128 .f32))
    (h : Spec0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 p14 p15 p16 p17 p18 p19 p20 p21 p22 p23)
    (e14 : ∀ f, arg14.view.read (Elt Ideal) (arg14.view.writes (Elt Ideal) f p14) = (yVal i S E x5 x6 x7 x9 x11))
    (e15 : ∀ f, arg15.view.read (Elt Ideal) (arg15.view.writes (Elt Ideal) f p15) = (k0_pay164 (k0_pay163 x10 x12)))
    (e16 : ∀ f, arg16.view.read (Elt Ideal) (arg16.view.writes (Elt Ideal) f p16) = (k0_pay161 x10))
    (e17 : ∀ f, arg17.view.read (Elt Ideal) (arg17.view.writes (Elt Ideal) f p17) = (k0_pay162 x10))
    (e18 : ∀ f, arg18.view.read (Elt Ideal) (arg18.view.writes (Elt Ideal) f p18) = (k0_pay317 (k0_pay313 x11) (Scalar.ofBits .f32 0x00000000#32) (Scalar.ofBits .f32 0x41700000#32) x12))
    (e19 : ∀ f, arg19.view.read (Elt Ideal) (arg19.view.writes (Elt Ideal) f p19) = (k0_pay315 (k0_pay312 x11)))
    (e20 : ∀ f, arg20.view.read (Elt Ideal) (arg20.view.writes (Elt Ideal) f p20) = (k0_pay316 (k0_pay311 x11)))
    (ok : SlotOK (cacheS i x0 x2 x3 x4) (ownS x0 x8 x10) (slA i) (arg21.view.read (Elt Ideal) (arg21.view.writes (Elt Ideal) (harg21.unread s0) p21))
      (arg22.view.read (Elt Ideal) (arg22.view.writes (Elt Ideal) (harg22.unread s1) p22)) (arg23.view.read (Elt Ideal) (arg23.view.writes (Elt Ideal) (harg23.unread s2) p23))) :
    ExactSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 S E := by
  intro M K
  iintro ⟨H0, H1, H2, H3, H4, H5, H6, H7, H8, H9, H10, H11, H12, H13, H14, H15, H16, H17, H18, H19, HS0, HS1, HS2, Hk⟩
  iapply (h M K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  iintro ⟨H0, H1, H2, H3, H4, H5, H6, H7, H8, H9, H10, H11, H12, ⟨%f14, H13⟩, ⟨%f15, H14⟩, ⟨%f16, H15⟩, ⟨%f17, H16⟩, ⟨%f18, H17⟩, ⟨%f19, H18⟩, ⟨%f20, H19⟩, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; · ipureintro; exact e14 f14
    iexact H13
  isplitl [H14]
  · unfold owns; iexists _; isplitr; · ipureintro; exact e15 f15
    iexact H14
  isplitl [H15]
  · unfold owns; iexists _; isplitr; · ipureintro; exact e16 f16
    iexact H15
  isplitl [H16]
  · unfold owns; iexists _; isplitr; · ipureintro; exact e17 f17
    iexact H16
  isplitl [H17]
  · unfold owns; iexists _; isplitr; · ipureintro; exact e18 f18
    iexact H17
  isplitl [H18]
  · unfold owns; iexists _; isplitr; · ipureintro; exact e19 f19
    iexact H18
  isplitl [H19]
  · unfold owns; iexists _; isplitr; · ipureintro; exact e20 f20
    iexact H19
  iexists _; iexists _; iexists _
  isplitr; · ipureintro; exact ok
  isplitl [HS0]
  · unfold owns; iexists _; isplitr; · ipureintro; rfl
    iexact HS0
  isplitl [HS1]
  · unfold owns; iexists _; isplitr; · ipureintro; rfl
    iexact HS1
  unfold owns; iexists _; isplitr; · ipureintro; rfl
  iexact HS2

/-- At the first point, whose stage B finds a slot of zeros. -/
theorem exactA (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : cond0_0 i) (hi : (i 0).val % 2 = 0)
    (x0 : Vec Ideal S1x1x64x128 .bf16) (x1 : Vec Ideal S1x1x64x128 .bf16) (x2 : Vec Ideal S1x1x64x16256 .i8) (x3 : Vec Ideal S1x508x2x128 .f32) (x4 : Vec Ideal S1x508x2x128 .f32) (x5 : Vec Ideal S1x1x64x16256 .i8) (x6 : Vec Ideal S1x2x16256 .f32) (x7 : Vec Ideal S1x2x16256 .f32) (x8 : Vec Ideal S1x1x128x128 .bf16) (x9 : Vec Ideal S1x1x128x128 .bf16) (x10 : Vec Ideal S1x1x4x128 .bf16) (x11 : Vec Ideal S1x1x4x128 .bf16) (x12 : Vec Ideal S128x64 .bf16)
    (s0 : Vec Ideal S2x64x16256 .f32) (s1 : Vec Ideal S2x64x256 .f32) (s2 : Vec Ideal S2x64x128 .f32) :
    ExactSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 (fun _ _ => 0) (fun _ _ => 0) := by
  refine exact_of_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 (fun _ _ => 0) (fun _ _ => 0) _ _ _ _ _ _ _ _ _ _ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).2 (fun f => ?_) (fun f => ?_) (fun f => ?_) (fun f => ?_) (fun f => ?_) (fun f => ?_) (fun f => ?_) ?_
  · rw [runA_p14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, yW_eq i arg6 harg6 x5 arg7 harg7 x6 arg8 harg8 x7 arg10 harg10 x9 arg12 harg12 x11 arg21 _ arg22 _ arg23 _ (fun _ _ => 0) (fun _ _ => 0)]
    · exact read_full _ _ _ (by intro a; fin_cases a <;> rfl) _ _
    · exact slot_miss i _ _ _ _ _ _ _ _ _ _ _ _ _ _ _ _ (slot_zero i _ _ _ _ _ _ hi)
  · rw [runA_p15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldPk_eq]
    exact read_full _ _ _ (by intro a; fin_cases a <;> rfl) _ _
  · rw [runA_p16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runA_p17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runA_p18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldPk_eq]
    exact read_full _ _ _ (by intro a; fin_cases a <;> rfl) _ _
  · rw [runA_p19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runA_p20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runA_p21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, runA_p22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, runA_p23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldT_eq]
    exact slot_fill i _ _ _ _ _ _ _ x0 (qW_apply arg1 harg1 x0) _ _ (cacheS i x0 x2 x3 x4)
      (fun k r t => scA_apply i arg1 harg1 x0 arg3 harg3 x2 arg4 harg4 x3 arg5 harg5 x4 k r t)
      (fun r t => scT_apply i arg1 harg1 x0 arg3 harg3 x2 arg4 harg4 x3 arg5 harg5 x4 r t) _ _ _ _ _

/-- At a later point, whose stage B finds the scores of the point before. -/
theorem exactB (c : Dev nD) (i : grid0.Coords) (arg1 : Memref sig .tc .vmem S1x1x64x128 .bf16) (harg1 : arg1.IsWhole) (arg2 : Memref sig .tc .vmem S1x1x64x128 .bf16) (harg2 : arg2.IsWhole) (arg3 : Memref sig .tc .vmem S1x1x64x16256 .i8) (harg3 : arg3.IsWhole) (arg4 : Memref sig .tc .vmem S1x508x2x128 .f32) (harg4 : arg4.IsWhole) (arg5 : Memref sig .tc .vmem S1x508x2x128 .f32) (harg5 : arg5.IsWhole) (arg6 : Memref sig .tc .vmem S1x1x64x16256 .i8) (harg6 : arg6.IsWhole) (arg7 : Memref sig .tc .vmem S1x2x16256 .f32) (harg7 : arg7.IsWhole) (arg8 : Memref sig .tc .vmem S1x2x16256 .f32) (harg8 : arg8.IsWhole) (arg9 : Memref sig .tc .vmem S1x1x128x128 .bf16) (harg9 : arg9.IsWhole) (arg10 : Memref sig .tc .vmem S1x1x128x128 .bf16) (harg10 : arg10.IsWhole) (arg11 : Memref sig .tc .vmem S1x1x4x128 .bf16) (harg11 : arg11.IsWhole) (arg12 : Memref sig .tc .vmem S1x1x4x128 .bf16) (harg12 : arg12.IsWhole) (arg13 : Memref sig .tc .vmem S128x64 .bf16) (harg13 : arg13.IsWhole) (arg14 : Memref sig .tc .vmem S1x1x64x128 .bf16) (harg14 : arg14.IsWhole) (arg15 : Memref sig .tc .vmem S1x1x4x64 .i8) (harg15 : arg15.IsWhole) (arg16 : Memref sig .tc .vmem S1x1x1x128 .f32) (harg16 : arg16.IsWhole) (arg17 : Memref sig .tc .vmem S1x1x1x128 .f32) (harg17 : arg17.IsWhole) (arg18 : Memref sig .tc .vmem S1x1x4x64 .i8) (harg18 : arg18.IsWhole) (arg19 : Memref sig .tc .vmem S1x1x4x128 .f32) (harg19 : arg19.IsWhole) (arg20 : Memref sig .tc .vmem S1x1x4x128 .f32) (harg20 : arg20.IsWhole) (arg21 : Memref sig .tc .vmem S2x64x16256 .f32) (harg21 : arg21.IsWhole) (arg22 : Memref sig .tc .vmem S2x64x256 .f32) (harg22 : arg22.IsWhole) (arg23 : Memref sig .tc .vmem S2x64x128 .f32) (harg23 : arg23.IsWhole) (hc0 : ¬cond0_0 i)
    (x0 : Vec Ideal S1x1x64x128 .bf16) (x1 : Vec Ideal S1x1x64x128 .bf16) (x2 : Vec Ideal S1x1x64x16256 .i8) (x3 : Vec Ideal S1x508x2x128 .f32) (x4 : Vec Ideal S1x508x2x128 .f32) (x5 : Vec Ideal S1x1x64x16256 .i8) (x6 : Vec Ideal S1x2x16256 .f32) (x7 : Vec Ideal S1x2x16256 .f32) (x8 : Vec Ideal S1x1x128x128 .bf16) (x9 : Vec Ideal S1x1x128x128 .bf16) (x10 : Vec Ideal S1x1x4x128 .bf16) (x11 : Vec Ideal S1x1x4x128 .bf16) (x12 : Vec Ideal S128x64 .bf16)
    (s0 : Vec Ideal S2x64x16256 .f32) (s1 : Vec Ideal S2x64x256 .f32) (s2 : Vec Ideal S2x64x128 .f32) (S : Fin 64 → Fin 16256 → EReal) (E : Fin 64 → Fin 256 → EReal)
    (ok : SlotOK S E (slB i) s0 s1 s2) :
    ExactSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 S E := by
  refine exact_of_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 s0 s1 s2 S E _ _ _ _ _ _ _ _ _ _ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2).2 (fun f => ?_) (fun f => ?_) (fun f => ?_) (fun f => ?_) (fun f => ?_) (fun f => ?_) (fun f => ?_) ?_
  · rw [runB_p14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, yW_eq i arg6 harg6 x5 arg7 harg7 x6 arg8 harg8 x7 arg10 harg10 x9 arg12 harg12 x11 arg21 _ arg22 _ arg23 _ S E]
    · exact read_full _ _ _ (by intro a; fin_cases a <;> rfl) _ _
    · exact slot_miss i _ _ _ _ _ _ _ _ _ _ _ _ _ _ _ _ (slot_congr ok (fun r t => congrFun (harg21.read_unread s0) _) (fun r t => congrFun (harg22.read_unread s1) _) (fun r t => congrFun (harg23.read_unread s2) _))
  · rw [runB_p15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldPk_eq]
    exact read_full _ _ _ (by intro a; fin_cases a <;> rfl) _ _
  · rw [runB_p16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runB_p17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runB_p18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldPk_eq]
    exact read_full _ _ _ (by intro a; fin_cases a <;> rfl) _ _
  · rw [runB_p19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runB_p20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq]
    exact read_full _ _ _ (by intro a; fin_cases a <;> rfl) _ _
  · rw [runB_p21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, runB_p22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, runB_p23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 s0 s1 s2, ldN_eq, ldT_eq]
    exact slot_fill i _ _ _ _ _ _ _ x0 (qW_apply arg1 harg1 x0) _ _ (cacheS i x0 x2 x3 x4)
      (fun k r t => scA_apply i arg1 harg1 x0 arg3 harg3 x2 arg4 harg4 x3 arg5 harg5 x4 k r t)
      (fun r t => scT_apply i arg1 harg1 x0 arg3 harg3 x2 arg4 harg4 x3 arg5 harg5 x4 r t) _ _ _ _ _

end Cert.KernelIdeal.Gen

end
-- ==== Proof.Body.lean ====
/- The pipeline's proof data with the values, its body obligation, and the run it yields. -/
module

public import proofs.«01_k».proof.Proof.Exact

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scores stage A stores at a point. -/
def ptS (c : Dev nD) (t : Fin cfg0.N) : Fin 64 → Fin 16256 → EReal :=
  cacheS (grid0.coords t) (iblk m c 0 t) (iblk m c 2 t) (iblk m c 3 t) (iblk m c 4 t)
def ptE (c : Dev nD) (t : Fin cfg0.N) : Fin 64 → Fin 256 → EReal :=
  ownS (iblk m c 0 t) (iblk m c 8 t) (iblk m c 10 t)

/-- The point before. -/
def pvt (t : Fin cfg0.N) : Fin cfg0.N := ⟨t.val - 1, Nat.lt_of_le_of_lt (Nat.sub_le _ _) t.isLt⟩

/-- The scores stage B finds at a point: zeros at the first, those of the point before after it. -/
def stS (c : Dev nD) (t : Fin cfg0.N) : Fin 64 → Fin 16256 → EReal := if t.val = 0 then fun _ _ => 0 else ptS m c (pvt t)
def stE (c : Dev nD) (t : Fin cfg0.N) : Fin 64 → Fin 256 → EReal := if t.val = 0 then fun _ _ => 0 else ptE m c (pvt t)

/-- The invariant before point `n`: the scratch buffers, the last point's scores in its slot; and the generator register. -/
def PhiV (c : Dev nD) (n : ℕ) : sProp 𝕄 :=
  iprop((∃ X0 X1 X2, ⌜∀ t : Fin cfg0.N, t.val + 1 = n → SlotOK (ptS m c t) (ptE m c t) (slA (grid0.coords t)) X0 X1 X2⌝
    ∗ owns (c : Thread nD τ) scM0_0 fullShare X0 ∗ owns (c : Thread nD τ) scM0_1 fullShare X1 ∗ owns (c : Thread nD τ) scM0_2 fullShare X2) ∗ (∃ r, prngReg c r))

/-- The proof data: each input's buffer at its block, each output's at its value. -/
def datv (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => yVal (grid0.coords t) (stS m c t) (stE m c t) (iblk m c 5 t) (iblk m c 6 t) (iblk m c 7 t) (iblk m c 9 t) (iblk m c 11 t)
    | ⟨14, _⟩ => k0_pay164 (k0_pay163 (iblk m c 10 t) (iblk m c 12 t))
    | ⟨15, _⟩ => k0_pay161 (iblk m c 10 t)
    | ⟨16, _⟩ => k0_pay162 (iblk m c 10 t)
    | ⟨17, _⟩ => k0_pay317 (k0_pay313 (iblk m c 11 t)) (Scalar.ofBits .f32 0x00000000#32) (Scalar.ofBits .f32 0x41700000#32) (iblk m c 12 t)
    | ⟨18, _⟩ => k0_pay315 (k0_pay312 (iblk m c 11 t))
    | ⟨19, _⟩ => k0_pay316 (k0_pay311 (iblk m c 11 t))
    | ⟨_ + 20, h⟩ => absurd h (Nat.not_lt.2 (Nat.le_add_left _ _))
  Φ t := PhiV m c t.val
  q w := Pipeline.shareOf spec0 w
  owed _ := 0

theorem datv_A (c : Dev nD) (w : Fin cfg0.W) : (datv m 0 c).A w = V m c (Pipeline.arrRef spec0 w) := by
  dsimp only [datv]

theorem afterv_0 (c : Dev nD) (t : Fin cfg0.N) : (datv m 0 c).after 0 t = iblk m c 0 t := by dsimp only [datv]
theorem afterv_1 (c : Dev nD) (t : Fin cfg0.N) : (datv m 0 c).after 1 t = iblk m c 1 t := by dsimp only [datv]
theorem afterv_2 (c : Dev nD) (t : Fin cfg0.N) : (datv m 0 c).after 2 t = iblk m c 2 t := by dsimp only [datv]
theorem afterv_3 (c : Dev nD) (t : Fin cfg0.N) : (datv m 0 c).after 3 t = iblk m c 3 t := by dsimp only [datv]
theorem afterv_4 (c : Dev nD) (t : Fin cfg0.N) : (datv m 0 c).after 4 t = iblk m c 4 t := by dsimp only [datv]
theorem afterv_5 (c : Dev nD) (t : Fin cfg0.N) : (datv m 0 c).after 5 t = iblk m c 5 t := by dsimp only [datv]
theorem afterv_6 (c : Dev nD) (t : Fin cfg0.N) : (datv m 0 c).after 6 t = iblk m c 6 t := by dsimp only [datv]
theorem afterv_7 (c : Dev nD) (t : Fin cfg0.N) : (datv m 0 c).after 7 t = iblk m c 7 t := by dsimp only [datv]
theorem afterv_8 (c : Dev nD) (t : Fin cfg0.N) : (datv m 0 c).after 8 t = iblk m c 8 t := by dsimp only [datv]
theorem afterv_9 (c : Dev nD) (t : Fin cfg0.N) : (datv m 0 c).after 9 t = iblk m c 9 t := by dsimp only [datv]
theorem afterv_10 (c : Dev nD) (t : Fin cfg0.N) : (datv m 0 c).after 10 t = iblk m c 10 t := by dsimp only [datv]
theorem afterv_11 (c : Dev nD) (t : Fin cfg0.N) : (datv m 0 c).after 11 t = iblk m c 11 t := by dsimp only [datv]
theorem afterv_12 (c : Dev nD) (t : Fin cfg0.N) : (datv m 0 c).after 12 t = iblk m c 12 t := by dsimp only [datv]
theorem afterv_13 (c : Dev nD) (t : Fin cfg0.N) : (datv m 0 c).after 13 t = yVal (grid0.coords t) (stS m c t) (stE m c t) (iblk m c 5 t) (iblk m c 6 t) (iblk m c 7 t) (iblk m c 9 t) (iblk m c 11 t) := by dsimp only [datv]
theorem afterv_14 (c : Dev nD) (t : Fin cfg0.N) : (datv m 0 c).after 14 t = k0_pay164 (k0_pay163 (iblk m c 10 t) (iblk m c 12 t)) := by dsimp only [datv]
theorem afterv_15 (c : Dev nD) (t : Fin cfg0.N) : (datv m 0 c).after 15 t = k0_pay161 (iblk m c 10 t) := by dsimp only [datv]
theorem afterv_16 (c : Dev nD) (t : Fin cfg0.N) : (datv m 0 c).after 16 t = k0_pay162 (iblk m c 10 t) := by dsimp only [datv]
theorem afterv_17 (c : Dev nD) (t : Fin cfg0.N) : (datv m 0 c).after 17 t = k0_pay317 (k0_pay313 (iblk m c 11 t)) (Scalar.ofBits .f32 0x00000000#32) (Scalar.ofBits .f32 0x41700000#32) (iblk m c 12 t) := by dsimp only [datv]
theorem afterv_18 (c : Dev nD) (t : Fin cfg0.N) : (datv m 0 c).after 18 t = k0_pay315 (k0_pay312 (iblk m c 11 t)) := by dsimp only [datv]
theorem afterv_19 (c : Dev nD) (t : Fin cfg0.N) : (datv m 0 c).after 19 t = k0_pay316 (k0_pay311 (iblk m c 11 t)) := by dsimp only [datv]
theorem beforev_0 (c : Dev nD) (t : Fin cfg0.N) (d) : (datv m 0 c).before 0 t d = iblk m c 0 t := before0_0_of m (datv m 0 c) (datv_A m c 0) (afterv_0 m c) t d
theorem beforev_1 (c : Dev nD) (t : Fin cfg0.N) (d) : (datv m 0 c).before 1 t d = iblk m c 1 t := before0_1_of m (datv m 0 c) (datv_A m c 1) (afterv_1 m c) t d
theorem beforev_2 (c : Dev nD) (t : Fin cfg0.N) (d) : (datv m 0 c).before 2 t d = iblk m c 2 t := before0_2_of m (datv m 0 c) (datv_A m c 2) (afterv_2 m c) t d
theorem beforev_3 (c : Dev nD) (t : Fin cfg0.N) (d) : (datv m 0 c).before 3 t d = iblk m c 3 t := before0_3_of m (datv m 0 c) (datv_A m c 3) (afterv_3 m c) t d
theorem beforev_4 (c : Dev nD) (t : Fin cfg0.N) (d) : (datv m 0 c).before 4 t d = iblk m c 4 t := before0_4_of m (datv m 0 c) (datv_A m c 4) (afterv_4 m c) t d
theorem beforev_5 (c : Dev nD) (t : Fin cfg0.N) (d) : (datv m 0 c).before 5 t d = iblk m c 5 t := before0_5_of m (datv m 0 c) (datv_A m c 5) (afterv_5 m c) t d
theorem beforev_6 (c : Dev nD) (t : Fin cfg0.N) (d) : (datv m 0 c).before 6 t d = iblk m c 6 t := before0_6_of m (datv m 0 c) (datv_A m c 6) (afterv_6 m c) t d
theorem beforev_7 (c : Dev nD) (t : Fin cfg0.N) (d) : (datv m 0 c).before 7 t d = iblk m c 7 t := before0_7_of m (datv m 0 c) (datv_A m c 7) (afterv_7 m c) t d
theorem beforev_8 (c : Dev nD) (t : Fin cfg0.N) (d) : (datv m 0 c).before 8 t d = iblk m c 8 t := before0_8_of m (datv m 0 c) (datv_A m c 8) (afterv_8 m c) t d
theorem beforev_9 (c : Dev nD) (t : Fin cfg0.N) (d) : (datv m 0 c).before 9 t d = iblk m c 9 t := before0_9_of m (datv m 0 c) (datv_A m c 9) (afterv_9 m c) t d
theorem beforev_10 (c : Dev nD) (t : Fin cfg0.N) (d) : (datv m 0 c).before 10 t d = iblk m c 10 t := before0_10_of m (datv m 0 c) (datv_A m c 10) (afterv_10 m c) t d
theorem beforev_11 (c : Dev nD) (t : Fin cfg0.N) (d) : (datv m 0 c).before 11 t d = iblk m c 11 t := before0_11_of m (datv m 0 c) (datv_A m c 11) (afterv_11 m c) t d
theorem beforev_12 (c : Dev nD) (t : Fin cfg0.N) (d) : (datv m 0 c).before 12 t d = iblk m c 12 t := before0_12_of m (datv m 0 c) (datv_A m c 12) (afterv_12 m c) t d

theorem val_succ {α : Sort _} {N : ℕ} (S : ℕ → α) (t : Fin N) : S t.succ.val = S (t.val + 1) := rfl
theorem val_cast {α : Sort _} {N : ℕ} (S : ℕ → α) (t : Fin N) : S t.castSucc.val = S t.val := rfl

theorem datv_Phi_cast (c : Dev nD) (t : Fin cfg0.N) : (datv m 0 c).Φ t.castSucc = PhiV m c t.val := by
  dsimp only [datv]; exact val_cast (PhiV m c) t
theorem datv_Phi_succ (c : Dev nD) (t : Fin cfg0.N) : (datv m 0 c).Φ t.succ = PhiV m c (t.val + 1) := by
  dsimp only [datv]; exact val_succ (PhiV m c) t

def bodyPreV (c : Dev nD) (t : Fin cfg0.N) : sProp 𝕄 :=
  iprop((datv m 0 c).Φ t.castSucc ∗ (datv m 0 c).owesAt () t.castSucc
    ∗ (∃ d, owns (c : Thread nD τ) (ms0_0 t) fullShare ((datv m 0 c).before 0 t d))
    ∗ (∃ d, owns (c : Thread nD τ) (ms0_1 t) fullShare ((datv m 0 c).before 1 t d))
    ∗ (∃ d, owns (c : Thread nD τ) (ms0_2 t) fullShare ((datv m 0 c).before 2 t d))
    ∗ (∃ d, owns (c : Thread nD τ) (ms0_3 t) fullShare ((datv m 0 c).before 3 t d))
    ∗ (∃ d, owns (c : Thread nD τ) (ms0_4 t) fullShare ((datv m 0 c).before 4 t d))
    ∗ (∃ d, owns (c : Thread nD τ) (ms0_5 t) fullShare ((datv m 0 c).before 5 t d))
    ∗ (∃ d, owns (c : Thread nD τ) (ms0_6 t) fullShare ((datv m 0 c).before 6 t d))
    ∗ (∃ d, owns (c : Thread nD τ) (ms0_7 t) fullShare ((datv m 0 c).before 7 t d))
    ∗ (∃ d, owns (c : Thread nD τ) (ms0_8 t) fullShare ((datv m 0 c).before 8 t d))
    ∗ (∃ d, owns (c : Thread nD τ) (ms0_9 t) fullShare ((datv m 0 c).before 9 t d))
    ∗ (∃ d, owns (c : Thread nD τ) (ms0_10 t) fullShare ((datv m 0 c).before 10 t d))
    ∗ (∃ d, owns (c : Thread nD τ) (ms0_11 t) fullShare ((datv m 0 c).before 11 t d))
    ∗ (∃ d, owns (c : Thread nD τ) (ms0_12 t) fullShare ((datv m 0 c).before 12 t d))
    ∗ (∃ d, owns (c : Thread nD τ) (ms0_13 t) fullShare ((datv m 0 c).before 13 t d))
    ∗ (∃ d, owns (c : Thread nD τ) (ms0_14 t) fullShare ((datv m 0 c).before 14 t d))
    ∗ (∃ d, owns (c : Thread nD τ) (ms0_15 t) fullShare ((datv m 0 c).before 15 t d))
    ∗ (∃ d, owns (c : Thread nD τ) (ms0_16 t) fullShare ((datv m 0 c).before 16 t d))
    ∗ (∃ d, owns (c : Thread nD τ) (ms0_17 t) fullShare ((datv m 0 c).before 17 t d))
    ∗ (∃ d, owns (c : Thread nD τ) (ms0_18 t) fullShare ((datv m 0 c).before 18 t d))
    ∗ (∃ d, owns (c : Thread nD τ) (ms0_19 t) fullShare ((datv m 0 c).before 19 t d)))

def bodyPostV (c : Dev nD) (t : Fin cfg0.N) : sProp 𝕄 :=
  iprop((datv m 0 c).Φ t.succ ∗ (datv m 0 c).owesAt () t.succ
    ∗ owns (c : Thread nD τ) (ms0_0 t) fullShare ((datv m 0 c).after 0 t)
    ∗ owns (c : Thread nD τ) (ms0_1 t) fullShare ((datv m 0 c).after 1 t)
    ∗ owns (c : Thread nD τ) (ms0_2 t) fullShare ((datv m 0 c).after 2 t)
    ∗ owns (c : Thread nD τ) (ms0_3 t) fullShare ((datv m 0 c).after 3 t)
    ∗ owns (c : Thread nD τ) (ms0_4 t) fullShare ((datv m 0 c).after 4 t)
    ∗ owns (c : Thread nD τ) (ms0_5 t) fullShare ((datv m 0 c).after 5 t)
    ∗ owns (c : Thread nD τ) (ms0_6 t) fullShare ((datv m 0 c).after 6 t)
    ∗ owns (c : Thread nD τ) (ms0_7 t) fullShare ((datv m 0 c).after 7 t)
    ∗ owns (c : Thread nD τ) (ms0_8 t) fullShare ((datv m 0 c).after 8 t)
    ∗ owns (c : Thread nD τ) (ms0_9 t) fullShare ((datv m 0 c).after 9 t)
    ∗ owns (c : Thread nD τ) (ms0_10 t) fullShare ((datv m 0 c).after 10 t)
    ∗ owns (c : Thread nD τ) (ms0_11 t) fullShare ((datv m 0 c).after 11 t)
    ∗ owns (c : Thread nD τ) (ms0_12 t) fullShare ((datv m 0 c).after 12 t)
    ∗ owns (c : Thread nD τ) (ms0_13 t) fullShare ((datv m 0 c).after 13 t)
    ∗ owns (c : Thread nD τ) (ms0_14 t) fullShare ((datv m 0 c).after 14 t)
    ∗ owns (c : Thread nD τ) (ms0_15 t) fullShare ((datv m 0 c).after 15 t)
    ∗ owns (c : Thread nD τ) (ms0_16 t) fullShare ((datv m 0 c).after 16 t)
    ∗ owns (c : Thread nD τ) (ms0_17 t) fullShare ((datv m 0 c).after 17 t)
    ∗ owns (c : Thread nD τ) (ms0_18 t) fullShare ((datv m 0 c).after 18 t)
    ∗ owns (c : Thread nD τ) (ms0_19 t) fullShare ((datv m 0 c).after 19 t))

theorem coords_val (t : Fin cfg0.N) : (grid0.coords t 0).val = t.val := by
  have ht : t.val < 17 := Nat.lt_of_lt_of_eq t.isLt N_0
  have e0 : (grid0.coords t 0).val = t.val / 1 % 17 := Pipeline.Grid.coords_val t 0 (by decide) rfl
  rw [e0]; omega

theorem slB_eq (t : Fin cfg0.N) (h : ¬t.val % 17 = 0) : slB (grid0.coords t) = slA (grid0.coords (pvt t)) := by
  have ht : t.val < 17 := Nat.lt_of_lt_of_eq t.isLt N_0
  refine Fin.ext ?_
  simp only [slB, slA]
  rw [coords_val, coords_val]
  simp only [pvt]; omega

set_option maxHeartbeats 4000000 in
/-- The body at any point. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [beforev_0, beforev_1, beforev_2, beforev_3, beforev_4, beforev_5, beforev_6, beforev_7, beforev_8, beforev_9, beforev_10, beforev_11, beforev_12]
  rw [datv_Phi_cast, datv_Phi_succ, show (datv m 0 c).owesAt () t.succ = (datv m 0 c).owesAt () t.castSucc from rfl,
    afterv_0, afterv_1, afterv_2, afterv_3, afterv_4, afterv_5, afterv_6, afterv_7, afterv_8, afterv_9, afterv_10, afterv_11, afterv_12, afterv_13, afterv_14, afterv_15, afterv_16, afterv_17, afterv_18, afterv_19]
  unfold PhiV
  have hN : t.val < 17 := lt_of_lt_of_eq t.isLt (show cfg0.N = 17 from N_0)
  by_cases h0 : t.val % 17 = 0
  · have hz : t.val = 0 := by omega
    rw [stS, stE, if_pos hz, if_pos hz]
    iintro ⟨⟨⟨%X0, %X1, %X2, %hok, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((exactA c (grid0.coords t) _ _ _ _ _ _ _ _ _ _ _ _ _ _ _ _ _ _ _ _ _ _ _ _ _ _ _ _ _ _ _ _ _ _ _ _ _ _ _ _ _ _ _ _ _ _ ((hcond0_0 t).mpr h0) (by rw [coords_val, hz]) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) X0 X1 X2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%Y0, %Y1, %Y2, %hY, HS0, HS1, HS2⟩⟩
    isplitl [HS0 HS1 HS2 Hg]
    · isplitl [HS0 HS1 HS2]
      · iexists Y0; iexists Y1; iexists Y2
        isplitr
        · ipureintro
          intro t' ht'
          obtain rfl : t' = t := Fin.ext (Nat.succ.inj ht')
          exact hY
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · have hz : t.val ≠ 0 := by omega
    rw [stS, stE, if_neg hz, if_neg hz]
    iintro ⟨⟨⟨%X0, %X1, %X2, %hok, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((exactB c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) X0 X1 X2 _ _ ((congrArg (fun a => SlotOK _ _ a X0 X1 X2) (slB_eq t h0)).mpr (hok (pvt t) (Nat.succ_pred_eq_of_ne_zero hz)))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%Y0, %Y1, %Y2, %hY, HS0, HS1, HS2⟩⟩
    isplitl [HS0 HS1 HS2 Hg]
    · isplitl [HS0 HS1 HS2]
      · iexists Y0; iexists Y1; iexists Y2
        isplitr
        · ipureintro
          intro t' ht'
          obtain rfl : t' = t := Fin.ext (Nat.succ.inj ht')
          exact hY
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_rowV (t : Fin cfg0.N) :
    defs₀ (F := Ideal) .tc cfg0.body (cfg0.bodyArgs t (cfg0.slots t)) = bodyAt0 t := by
  unfold defs₀; rw [Defs.onTc_tc]

theorem body_obligationV (c : Dev nD) : BodyObligation (datv m 0 c) (defs₀ (F := Ideal)) Variants.none () Set.univ := fun t => by
  rw [bigSep_W0, bigSep_W0, defs₀_rowV]
  exact triple_restated (sound_bodyV m c t) rfl .rfl fun _ => .rfl

theorem PhiV_in (c : Dev nD) : (Pipeline.ΦA spec0 c : sProp 𝕄) ⊢ (datv m 0 c).Φ 0 := by
  rw [show (datv m 0 c).Φ 0 = PhiV m c 0 from by dsimp only [datv]; rfl, PhiA0_eq]
  unfold PhiV
  iintro ⟨⟨⟨%X0, HS0⟩, ⟨%X1, HS1⟩, ⟨%X2, HS2⟩⟩, Hg⟩
  isplitl [HS0 HS1 HS2]
  · iexists X0; iexists X1; iexists X2
    isplitr
    · ipureintro
      intro t' ht'
      exact absurd ht' (Nat.succ_ne_zero _)
    isplitl [HS0]; · iexact HS0
    isplitl [HS1]; · iexact HS1
    iexact HS2
  iexact Hg

theorem PhiV_out (c : Dev nD) : (datv m 0 c).Φ (Fin.last cfg0.N) ⊢ (Pipeline.ΦA spec0 c : sProp 𝕄) := by
  rw [show (datv m 0 c).Φ (Fin.last cfg0.N) = PhiV m c (Fin.last cfg0.N).val from by dsimp only [datv], PhiA0_eq]
  unfold PhiV
  iintro ⟨⟨%X0, %X1, %X2, %hok, HS0, HS1, HS2⟩, Hg⟩
  isplitl [HS0 HS1 HS2]
  · isplitl [HS0]; · iexists X0; iexact HS0
    isplitl [HS1]; · iexists X1; iexact HS1
    iexists X2; iexact HS2
  iexact Hg

set_option backward.isDefEq.respectTransparency.types false in
/-- The run: every array at its value and every counter at zero at every final state. -/
theorem run_mainV : θ_run defs (onTc (τ := τ) (main (F := Ideal))) (s₀ m ρ) (fun r => Pipeline.FramePost cfgs (datv m) 0 (V m) r ∧ r.2.sem = fun _ => 0) :=
  Pipeline.θ_run_frame_track_shared (Q' := _) cfgs (datv m) (0 : Fin 1) launch₀0 defs₀ Variants.none m ρ main
    (hbody := fun c => (body_obligationV m c).loose) (hq := fun _ _ _ => rfl)
    (howed := fun _ _ => rfl) (V := V m) (hmain := hmain m Variants.none) (hA := datv_A m) (hin := PhiV_in m) (hout := PhiV_out m)

end Cert.KernelIdeal.Gen

end
-- ==== Proof.Host.lean ====
/- What the region finds in the windows' arrays: the arguments, transposed. -/
module

public import proofs.«01_k».proof.Proof.Body
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

theorem V_v2 (b : Fin 8) (kv : Fin 2) (r : Fin 64) (d : Fin 128) : V m c main_v2 (ix4 b kv r d) = m ((c : Thread nD τ).loc main_arg0) (ix3 b (⟨r.val % 4, by omega⟩ : Fin 4) (⟨kv.val * 2048 + r.val / 4 * 128 + d.val, by omega⟩ : Fin 4096)) := by
  unfold V
  simp only [List.flatten_cons, List.flatten_nil, List.append_nil, List.cons_append, List.nil_append]
  after_reads_at

theorem V_v3 (b : Fin 8) (kv : Fin 2) (w : Fin 64) (t : Fin 16256) : V m c main_v3 (ix4 b kv w t) = m ((c : Thread nD τ).loc main_arg3) (ix4 b t kv w) := by
  unfold V
  simp only [List.flatten_cons, List.flatten_nil, List.append_nil, List.cons_append, List.nil_append]
  after_reads_at

theorem V_v4 (b : Fin 8) (kv : Fin 2) (w : Fin 64) (t : Fin 16256) : V m c main_v4 (ix4 b kv w t) = m ((c : Thread nD τ).loc main_arg6) (ix4 b t kv w) := by
  unfold V
  simp only [List.flatten_cons, List.flatten_nil, List.append_nil, List.cons_append, List.nil_append]
  after_reads_at

theorem V_v5 (b : Fin 8) (kv : Fin 2) (t : Fin 16256) : V m c main_v5 (ix3 b kv t) = m ((c : Thread nD τ).loc main_arg7) (ix3 b t kv) := by
  unfold V
  simp only [List.flatten_cons, List.flatten_nil, List.append_nil, List.cons_append, List.nil_append]
  after_reads_at

theorem V_v6 (b : Fin 8) (kv : Fin 2) (t : Fin 16256) : V m c main_v6 (ix3 b kv t) = m ((c : Thread nD τ).loc main_arg8) (ix3 b t kv) := by
  unfold V
  simp only [List.flatten_cons, List.flatten_nil, List.append_nil, List.cons_append, List.nil_append]
  after_reads_at

theorem V_v7 (b : Fin 8) (kv : Fin 2) (j : Fin 128) (d : Fin 128) : V m c main_v7 (ix4 b kv j d) = m ((c : Thread nD τ).loc main_arg9) (ix4 b j kv d) := by
  unfold V
  simp only [List.flatten_cons, List.flatten_nil, List.append_nil, List.cons_append, List.nil_append]
  after_reads_at

theorem V_v8 (b : Fin 8) (kv : Fin 2) (j : Fin 128) (d : Fin 128) : V m c main_v8 (ix4 b kv j d) = m ((c : Thread nD τ).loc main_arg10) (ix4 b j kv d) := by
  unfold V
  simp only [List.flatten_cons, List.flatten_nil, List.append_nil, List.cons_append, List.nil_append]
  after_reads_at

theorem V_v9 (b : Fin 8) (kv : Fin 2) (s : Fin 4) (d : Fin 128) : V m c main_v9 (ix4 b kv s d) = m ((c : Thread nD τ).loc main_arg1) (ix4 b s kv d) := by
  unfold V
  simp only [List.flatten_cons, List.flatten_nil, List.append_nil, List.cons_append, List.nil_append]
  after_reads_at

theorem V_v10 (b : Fin 8) (kv : Fin 2) (s : Fin 4) (d : Fin 128) : V m c main_v10 (ix4 b kv s d) = m ((c : Thread nD τ).loc main_arg2) (ix4 b s kv d) := by
  unfold V
  simp only [List.flatten_cons, List.flatten_nil, List.append_nil, List.cons_append, List.nil_append]
  after_reads_at

/-- The word the matrix compares with a column: the row halved, as the host spells a floor division. -/
def packQ (ch : Fin 128) : BitVec 32 :=
  Scalar.select
    (IntOp.andi
      (IntOp.cmpi CmpIPredicate.ne (if BitVec.ofNat 32 ↑ch = 0 then 0 else if (BitVec.ofNat 32 ↑ch).msb = true then -1 else 1 : BitVec 32)
        (if (2#32 : BitVec 32) = 0 then 0 else if BitVec.msb (2#32) = true then -1 else 1))
      (IntOp.cmpi CmpIPredicate.ne (IntOp.remsi ArithUnit.host (BitVec.ofNat 32 ↑ch) 2#32) 0#32))
    (IntOp.subi (IntOp.divsi ArithUnit.host (BitVec.ofNat 32 ↑ch) 2#32) 1#32)
    (IntOp.divsi ArithUnit.host (BitVec.ofNat 32 ↑ch) 2#32)

def packTwo : BitVec 32 := Scalar.select (IntOp.cmpi CmpIPredicate.eq (2#32) 0#32) (1#32) (2#32)

/-- The row's parity, as the host spells a remainder. -/
def packR (ch : Fin 128) : BitVec 32 :=
  Scalar.select
    (IntOp.andi
      (IntOp.cmpi CmpIPredicate.ne (IntOp.cmpi CmpIPredicate.slt (IntOp.remsi ArithUnit.host (BitVec.ofNat 32 ↑ch) packTwo) 0#32)
        (IntOp.cmpi CmpIPredicate.slt packTwo 0#32))
      (IntOp.cmpi CmpIPredicate.ne (IntOp.remsi ArithUnit.host (BitVec.ofNat 32 ↑ch) packTwo) 0#32))
    (IntOp.addi (IntOp.remsi ArithUnit.host (BitVec.ofNat 32 ↑ch) packTwo) packTwo)
    (IntOp.remsi ArithUnit.host (BitVec.ofNat 32 ↑ch) packTwo)

theorem packQ_eq : ∀ ch : Fin 128, packQ ch = BitVec.ofNat 32 (ch.val / 2) := by decide +kernel
theorem packR_eq : ∀ ch : Fin 128, packR ch = BitVec.ofNat 32 (ch.val % 2) := by decide +kernel

theorem cmp_small (a b : ℕ) (ha : a < 128) (hb : b < 128) :
    IntOp.cmpi CmpIPredicate.eq (BitVec.ofNat 32 a) (BitVec.ofNat 32 b) = if a = b then 1#1 else 0#1 := by
  have h : (BitVec.ofNat 32 a = BitVec.ofNat 32 b) ↔ a = b := by
    constructor
    · intro h
      have := congrArg BitVec.toNat h
      simp only [BitVec.toNat_ofNat] at this
      omega
    · intro h; rw [h]
  by_cases e : a = b
  · subst e; simp [IntOp.cmpi]
  · have e' := mt h.mp e
    simp only [IntOp.cmpi]
    rw [beq_eq_false_iff_ne.mpr e', if_neg e]; rfl

theorem ofBits_16 : Ideal.ofBits .f32 0x41800000#32 = ((16 : ℝ) : EReal) := by
  simp [Ideal.ofBits, Ideal.ieee, -EReal.coe_mul]; norm_num

theorem V_v25 (ch : Fin 128) (w : Fin 64) : V m c main_v25 (ix2 ch w)
    = if ch.val / 2 = w.val then (if ch.val % 2 = 0 then (1 : EReal) else ((16 : ℝ) : EReal)) else 0 := by
  unfold V
  simp only [List.flatten_cons, List.flatten_nil, List.append_nil, List.cons_append, List.nil_append]
  after_reads_at
  refine Eq.trans (show _ = Scalar.select (IntOp.cmpi CmpIPredicate.eq (packQ ch) (BitVec.ofNat 32 ↑w))
    (Scalar.select (IntOp.cmpi CmpIPredicate.eq (packR ch) (BitVec.ofNat 32 0)) (1 : EReal) (Ideal.ofBits FTy.f32 1098907648#32)) (0 : EReal) from rfl) ?_
  rw [packQ_eq, packR_eq, cmp_small _ _ (by omega) (by omega), cmp_small _ _ (by omega) (by omega), ofBits_16]
  by_cases h1 : ch.val / 2 = w.val <;> by_cases h2 : ch.val % 2 = 0 <;> simp [h1, h2, Scalar.select]

end Cert.KernelIdeal.Gen

end
-- ==== Proof.Blocks.lean ====
/- The windows' blocks over the arguments: which unit of the arrays a point reads. -/
module

public import proofs.«01_k».proof.Proof.Host
public import Idealize.ShloMosaic.Lib.Pipeline.Value
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-- The batch and head of the unit that stage A scores at a point. -/
def uAb (t : Fin cfg0.N) : Fin 8 := ⟨min t.val 15 / 2, by omega⟩
def uAh (t : Fin cfg0.N) : Fin 2 := ⟨min t.val 15 % 2, by omega⟩
/-- The batch and head of the unit that stage B finishes at a point. -/
def uBb (t : Fin cfg0.N) : Fin 8 := ⟨(t.val - 1) / 2, by have h : t.val < 17 := Nat.lt_of_lt_of_eq t.isLt N_0; omega⟩
def uBh (t : Fin cfg0.N) : Fin 2 := ⟨(t.val - 1) % 2, by omega⟩

theorem idx_0 : ∀ t : Fin cfg0.N, win0_0.index t = ![min t.val 15 / 2, min t.val 15 % 2, 0, 0] := (by decide +kernel : ∀ t : Fin grid0.N, _)
theorem idx_2 : ∀ t : Fin cfg0.N, win0_2.index t = ![min t.val 15 / 2, min t.val 15 % 2, 0, 0] := (by decide +kernel : ∀ t : Fin grid0.N, _)
theorem idx_3 : ∀ t : Fin cfg0.N, win0_3.index t = ![min t.val 15 / 2, 0, 0, 0] := (by decide +kernel : ∀ t : Fin grid0.N, _)
theorem idx_4 : ∀ t : Fin cfg0.N, win0_4.index t = ![min t.val 15 / 2, 0, 0, 0] := (by decide +kernel : ∀ t : Fin grid0.N, _)
theorem idx_5 : ∀ t : Fin cfg0.N, win0_5.index t = ![(t.val - 1) / 2, (t.val - 1) % 2, 0, 0] := (by decide +kernel : ∀ t : Fin grid0.N, _)
theorem idx_6 : ∀ t : Fin cfg0.N, win0_6.index t = ![(t.val - 1) / 2, 0, 0] := (by decide +kernel : ∀ t : Fin grid0.N, _)
theorem idx_7 : ∀ t : Fin cfg0.N, win0_7.index t = ![(t.val - 1) / 2, 0, 0] := (by decide +kernel : ∀ t : Fin grid0.N, _)
theorem idx_8 : ∀ t : Fin cfg0.N, win0_8.index t = ![min t.val 15 / 2, min t.val 15 % 2, 0, 0] := (by decide +kernel : ∀ t : Fin grid0.N, _)
theorem idx_9 : ∀ t : Fin cfg0.N, win0_9.index t = ![(t.val - 1) / 2, (t.val - 1) % 2, 0, 0] := (by decide +kernel : ∀ t : Fin grid0.N, _)
theorem idx_10 : ∀ t : Fin cfg0.N, win0_10.index t = ![min t.val 15 / 2, min t.val 15 % 2, 0, 0] := (by decide +kernel : ∀ t : Fin grid0.N, _)
theorem idx_11 : ∀ t : Fin cfg0.N, win0_11.index t = ![(t.val - 1) / 2, (t.val - 1) % 2, 0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![(t.val - 1) / 2, (t.val - 1) % 2, 0, 0] := (by decide +kernel : ∀ t : Fin grid0.N, _)
theorem idx_14 : ∀ t : Fin cfg0.N, win0_14.index t = ![min t.val 15 / 2, min t.val 15 % 2, 0, 0] := (by decide +kernel : ∀ t : Fin grid0.N, _)
theorem idx_15 : ∀ t : Fin cfg0.N, win0_15.index t = ![min t.val 15 / 2, min t.val 15 % 2, 0, 0] := (by decide +kernel : ∀ t : Fin grid0.N, _)
theorem idx_16 : ∀ t : Fin cfg0.N, win0_16.index t = ![min t.val 15 / 2, min t.val 15 % 2, 0, 0] := (by decide +kernel : ∀ t : Fin grid0.N, _)
theorem idx_17 : ∀ t : Fin cfg0.N, win0_17.index t = ![(t.val - 1) / 2, (t.val - 1) % 2, 0, 0] := (by decide +kernel : ∀ t : Fin grid0.N, _)
theorem idx_18 : ∀ t : Fin cfg0.N, win0_18.index t = ![(t.val - 1) / 2, (t.val - 1) % 2, 0, 0] := (by decide +kernel : ∀ t : Fin grid0.N, _)
theorem idx_19 : ∀ t : Fin cfg0.N, win0_19.index t = ![(t.val - 1) / 2, (t.val - 1) % 2, 0, 0] := (by decide +kernel : ∀ t : Fin grid0.N, _)

theorem flush_13 : ∀ t : Fin cfg0.N, (cfg0.win 13).flush t = true → t.val ≠ 0 := (by decide +kernel : ∀ t : Fin grid0.N, win0_13.flush t = true → t.val ≠ 0)

theorem blk_0 (t : Fin cfg0.N) (r : Fin 64) (d : Fin 128) : iblk m c 0 t (ix4 0 0 r d) = V m c main_v2 (ix4 (uAb t) (uAh t) r d) := by
  unfold iblk
  blk_ext [idx_0 t, uAb, uAh, uBb, uBh]
theorem blk_2 (t : Fin cfg0.N) (w : Fin 64) (k : Fin 16256) : iblk m c 2 t (ix4 0 0 w k) = V m c main_v3 (ix4 (uAb t) (uAh t) w k) := by
  unfold iblk
  blk_ext [idx_2 t, uAb, uAh, uBb, uBh]
theorem blk_3 (t : Fin cfg0.N) (g : Fin 508) (h : Fin 2) (d : Fin 128) : iblk m c 3 t (ix4 0 g h d) = V m c main_arg4 (ix4 (uAb t) g h d) := by
  unfold iblk
  blk_ext [idx_3 t, uAb, uAh, uBb, uBh]
theorem blk_4 (t : Fin cfg0.N) (g : Fin 508) (h : Fin 2) (d : Fin 128) : iblk m c 4 t (ix4 0 g h d) = V m c main_arg5 (ix4 (uAb t) g h d) := by
  unfold iblk
  blk_ext [idx_4 t, uAb, uAh, uBb, uBh]
theorem blk_5 (t : Fin cfg0.N) (w : Fin 64) (k : Fin 16256) : iblk m c 5 t (ix4 0 0 w k) = V m c main_v4 (ix4 (uBb t) (uBh t) w k) := by
  unfold iblk
  blk_ext [idx_5 t, uAb, uAh, uBb, uBh]
theorem blk_6 (t : Fin cfg0.N) (h : Fin 2) (k : Fin 16256) : iblk m c 6 t (ix3 0 h k) = V m c main_v5 (ix3 (uBb t) h k) := by
  unfold iblk
  blk_ext [idx_6 t, uAb, uAh, uBb, uBh]
theorem blk_7 (t : Fin cfg0.N) (h : Fin 2) (k : Fin 16256) : iblk m c 7 t (ix3 0 h k) = V m c main_v6 (ix3 (uBb t) h k) := by
  unfold iblk
  blk_ext [idx_7 t, uAb, uAh, uBb, uBh]
theorem blk_8 (t : Fin cfg0.N) (j : Fin 128) (d : Fin 128) : iblk m c 8 t (ix4 0 0 j d) = V m c main_v7 (ix4 (uAb t) (uAh t) j d) := by
  unfold iblk
  blk_ext [idx_8 t, uAb, uAh, uBb, uBh]
theorem blk_9 (t : Fin cfg0.N) (j : Fin 128) (d : Fin 128) : iblk m c 9 t (ix4 0 0 j d) = V m c main_v8 (ix4 (uBb t) (uBh t) j d) := by
  unfold iblk
  blk_ext [idx_9 t, uAb, uAh, uBb, uBh]
theorem blk_10 (t : Fin cfg0.N) (s : Fin 4) (d : Fin 128) : iblk m c 10 t (ix4 0 0 s d) = V m c main_v9 (ix4 (uAb t) (uAh t) s d) := by
  unfold iblk
  blk_ext [idx_10 t, uAb, uAh, uBb, uBh]
theorem blk_11 (t : Fin cfg0.N) (s : Fin 4) (d : Fin 128) : iblk m c 11 t (ix4 0 0 s d) = V m c main_v10 (ix4 (uBb t) (uBh t) s d) := by
  unfold iblk
  blk_ext [idx_11 t, uAb, uAh, uBb, uBh]
theorem blk_12 (t : Fin cfg0.N) (a : Fin 128) (w : Fin 64) : iblk m c 12 t (ix2 a w) = V m c main_v25 (ix2 a w) := by
  unfold iblk
  blk_ext [idx_12 t, uAb, uAh, uBb, uBh]

end Cert.KernelIdeal.Gen

end
-- ==== Proof.Spec.lean ====
/- What both programs compute, over the argument arrays. -/
module

public import proofs.«01_k».proof.Proof.Stage

@[expose] public section

set_option maxRecDepth 16384

noncomputable section

namespace Cert.Spec

open Idealize.ShloMosaic Idealize.ShloMosaic.TcCoe Idealize.ShloMosaic.Tactic
open Cert.KernelIdeal Cert.KernelIdeal.Gen

/-! ## A code is an integer from 0 to 15 -/

theorem ofBits_15 : Ideal.ofBits .f32 0x41700000#32 = ((15 : ℝ) : EReal) := by
  simp [Ideal.ofBits, Ideal.ieee, -EReal.coe_mul]; norm_num

theorem qcd_nat {n : ℕ} (f : Fin n → EReal) (x : EReal) : ∃ k : ℕ, k ≤ 15 ∧ qcd f x = ((k : ℝ) : EReal) := by
  unfold qcd
  rw [ofBits_15]
  induction Ideal.div (x - qlo f) (qsc f) using EReal.rec with
  | bot =>
    refine ⟨0, by omega, ?_⟩
    rw [show Ideal.liftRound Ideal.roundHalfEven ⊥ = (⊥ : EReal) from rfl, max_eq_left bot_le, min_eq_right (by exact_mod_cast (by norm_num : (0 : ℝ) ≤ 15))]
    simp
  | top =>
    refine ⟨15, by omega, ?_⟩
    rw [show Ideal.liftRound Ideal.roundHalfEven ⊤ = (⊤ : EReal) from rfl, max_eq_right le_top, min_eq_left le_top]
    rfl
  | coe r =>
    have hz : (Ideal.liftRound Ideal.roundHalfEven (r : EReal)) = ((Ideal.roundHalfEven r : ℤ) : ℝ) := rfl
    rw [hz]
    generalize Ideal.roundHalfEven r = z
    have h0 : (0 : EReal) = ((0 : ℝ) : EReal) := rfl
    refine ⟨(min 15 (max 0 z)).toNat, by omega, ?_⟩
    rw [h0, ← EReal.coe_strictMono.monotone.map_max, ← EReal.coe_strictMono.monotone.map_min]
    refine congrArg _ ?_
    have hc : (((min 15 (max 0 z)).toNat : ℤ) : ℝ) = ((min 15 (max 0 z) : ℤ) : ℝ) := by
      rw [Int.toNat_of_nonneg (by omega)]
    rw [show (((min 15 (max 0 z)).toNat : ℕ) : ℝ) = (((min 15 (max 0 z)).toNat : ℤ) : ℝ) from by push_cast; rfl, hc]
    push_cast
    rfl

/-- The code of an element, as a number. -/
def qn {n : ℕ} (f : Fin n → EReal) (x : EReal) : ℕ := Classical.choose (qcd_nat f x)
theorem qn_le {n : ℕ} (f : Fin n → EReal) (x : EReal) : qn f x ≤ 15 := (Classical.choose_spec (qcd_nat f x)).1
theorem qcd_eq {n : ℕ} (f : Fin n → EReal) (x : EReal) : qcd f x = ((qn f x : ℝ) : EReal) := (Classical.choose_spec (qcd_nat f x)).2

/-- Two codes in a byte, the first one low. -/
def byteOf (a b : ℕ) : BitVec 8 := BitVec.ofNat 8 (a + 16 * b)

/-! ## The results -/

section Results
variable (X : Vec Ideal S8x4x4096 .bf16) (KN VN : Vec Ideal S8x4x2x128 .bf16) (KC : Vec Ideal S8x16256x2x64 .i8)
  (KS KZ : Vec Ideal S8x508x2x128 .f32) (VC : Vec Ideal S8x16256x2x64 .i8) (VS VZ : Vec Ideal S8x16256x2 .f32)
  (KT VT : Vec Ideal S8x128x2x128 .bf16) (b : Fin 8) (h : Fin 2)

/-- A new key's channel over the step's tokens; a new value's channels. -/
def kcolA (d : Fin 128) : Fin 4 → EReal := fun s => KN (ix4 b s h d)
def vrowA (s : Fin 4) : Fin 128 → EReal := fun d => VN (ix4 b s h d)

def kncA (s : Fin 4) (w : Fin 64) : BitVec 8 :=
  byteOf (qn (kcolA KN b h ⟨2 * w.val, by omega⟩) (KN (ix4 b s h ⟨2 * w.val, by omega⟩)))
    (qn (kcolA KN b h ⟨2 * w.val + 1, by omega⟩) (KN (ix4 b s h ⟨2 * w.val + 1, by omega⟩)))
def vncA (s : Fin 4) (w : Fin 64) : BitVec 8 :=
  byteOf (qn (vrowA VN b h s) (VN (ix4 b s h ⟨2 * w.val, by omega⟩))) (qn (vrowA VN b h s) (VN (ix4 b s h ⟨2 * w.val + 1, by omega⟩)))

/-- A query row: its head and token are its number's quotient and remainder by four. -/
def qA (r : Fin 64) (d : Fin 128) : EReal :=
  X (ix3 b (⟨r.val % 4, by omega⟩ : Fin 4) (⟨h.val * 2048 + r.val / 4 * 128 + d.val, by omega⟩ : Fin 4096))

def keyA (d : Fin 128) (t : Fin 16256) : EReal :=
  FloatOps.sitofp (F := Ideal) .bf16 (nib (KC (ix4 b t h ⟨d.val / 2, by omega⟩)) (d.val % 2)) * KS (ix4 b (⟨t.val / 32, by omega⟩ : Fin 508) h d)
    + KZ (ix4 b (⟨t.val / 32, by omega⟩ : Fin 508) h d)
def valA (d : Fin 128) (t : Fin 16256) : EReal :=
  FloatOps.sitofp (F := Ideal) .bf16 (nib (VC (ix4 b t h ⟨d.val / 2, by omega⟩)) (d.val % 2)) * VS (ix3 b t h) + VZ (ix3 b t h)

def newKA (j : ℕ) (d : Fin 128) : EReal :=
  if hj : j < 4 then qcd (kcolA KN b h d) (kcolA KN b h d ⟨j, hj⟩) * qsc (kcolA KN b h d) + qlo (kcolA KN b h d) else 0
def newVA (j : ℕ) (d : Fin 128) : EReal :=
  if hj : j < 4 then qcd (vrowA VN b h ⟨j, hj⟩) (vrowA VN b h ⟨j, hj⟩ d) * qsc (vrowA VN b h ⟨j, hj⟩) + qlo (vrowA VN b h ⟨j, hj⟩) else 0

def SA (r : Fin 64) (t : Fin 16256) : EReal := ∑ d, qA X b h r d * keyA KC KS KZ b h d t
def EA (r : Fin 64) (j : Fin 256) : EReal :=
  if hj : j.val < 128 then ∑ d, qA X b h r d * KT (ix4 b (⟨j.val, hj⟩ : Fin 128) h d)
  else if j.val - 128 ≤ r.val % 4 then ∑ d, qA X b h r d * newKA KN b h (j.val - 128) d else ⊥
def WA (d : Fin 128) (j : Fin 256) : EReal :=
  if hj : j.val < 128 then VT (ix4 b (⟨j.val, hj⟩ : Fin 128) h d) else newVA VN b h (j.val - 128) d

def yA (r : Fin 64) (d : Fin 128) : EReal :=
  attn (SA X KC KS KZ b h) (EA X KN KT b h) (valA VC VS VZ b h) (WA VN VT b h) r d

end Results

end Cert.Spec

end
-- ==== Proof.Pack.lean ====
/- The kernel's packed bytes: the codes times the matrix of ones and sixteens, as a byte. -/
module

public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic Cert.Spec

theorem pay161_apply (kn : Vec Ideal S1x1x4x128 .bf16) (d : Fin 128) : k0_pay161 kn (ix4 0 0 0 d) = qsc (kcol kn d) := by
  pointwise [k0_pay161, pay159_apply]
theorem pay162_apply (kn : Vec Ideal S1x1x4x128 .bf16) (d : Fin 128) : k0_pay162 kn (ix4 0 0 0 d) = qlo (kcol kn d) := by
  pointwise [k0_pay162, pay158_apply]
theorem pay315_apply (vn : Vec Ideal S1x1x4x128 .bf16) (s : Fin 4) (d : Fin 128) : k0_pay315 (k0_pay312 vn) (ix4 0 0 s d) = qsc (vrow vn s) := by
  pointwise [k0_pay315, pay312_apply]
theorem pay316_apply (vn : Vec Ideal S1x1x4x128 .bf16) (s : Fin 4) (d : Fin 128) : k0_pay316 (k0_pay311 vn) (ix4 0 0 s d) = qlo (vrow vn s) := by
  pointwise [k0_pay316, pay311_apply]

theorem pay164_apply (kn : Vec Ideal S1x1x4x128 .bf16) (pk : Vec Ideal S128x64 .bf16) (s : Fin 4) (w : Fin 64) :
    k0_pay164 (k0_pay163 kn pk) (ix4 0 0 s w)
      = (FloatOps.fptosi (F := Ideal) (φ := .f32) 32 (∑ d : Fin 128, qcd (kcol kn d) (kcol kn d s) * pk (ix2 d w))).truncate 8 := by
  pointwise [k0_pay164, k0_pay163, pay160_apply]
theorem pay317_apply (vn : Vec Ideal S1x1x4x128 .bf16) (pk : Vec Ideal S128x64 .bf16) (s : Fin 4) (w : Fin 64) :
    k0_pay317 (k0_pay313 vn) (Scalar.ofBits .f32 0x00000000#32) (Scalar.ofBits .f32 0x41700000#32) pk (ix4 0 0 s w)
      = (FloatOps.fptosi (F := Ideal) (φ := .f32) 32 (∑ d : Fin 128, qcd (vrow vn s) (vrow vn s d) * pk (ix2 d w))).truncate 8 := by
  have e (d : Fin 128) : k0_pay314 (k0_pay313 vn) 0 (Ideal.ofBits .f32 0x41700000#32) (ix2 s d) = qcd (vrow vn s) (vrow vn s d) := by
    pointwise [k0_pay314, k0_pay313, k0_pay310, qcd, vrow, pay311_apply, pay312_apply]
  pointwise [k0_pay317]
  refine congrArg (fun z => BitVec.setWidth 8 (FloatOps.fptosi (F := Ideal) (φ := .f32) 32 z)) (Finset.sum_congr rfl fun d _ => congrArg (· * pk (ix2 d w)) ?_)
  exact e d

theorem fptosi_nat (k : ℕ) (h : k < 1000) : FloatOps.fptosi (F := Ideal) (φ := .f32) 32 ((k : ℝ) : EReal) = BitVec.ofNat 32 k := by
  show Ideal.fptosi 32 ((k : ℝ) : EReal) = _
  unfold Ideal.fptosi
  rw [show Ideal.toIntClamped (-(2 ^ (32 - 1) : Nat)) ((2 ^ (32 - 1) : Nat) - 1) ((k : ℝ) : EReal) = (k : ℤ) from by
    rw [Ideal.toIntClamped_coe, if_pos (Nat.cast_nonneg k), Int.floor_natCast]
    have e : ((2 ^ (32 - 1) : ℕ) : ℤ) = 2147483648 := by norm_num
    omega]
  exact BitVec.ofInt_natCast 32 k

/-- A row of the packing matrix picks two codes out. -/
theorem pack_sum (n : Fin 128 → ℕ) (w : Fin 64) :
    ∑ d : Fin 128, ((n d : ℝ) : EReal) * (if d.val / 2 = w.val then (if d.val % 2 = 0 then (1 : EReal) else ((16 : ℝ) : EReal)) else 0)
      = ((n ⟨2 * w.val, by omega⟩ + 16 * n ⟨2 * w.val + 1, by omega⟩ : ℕ) : ℝ) := by
  rw [Finset.sum_eq_add (⟨2 * w.val, by omega⟩ : Fin 128) (⟨2 * w.val + 1, by omega⟩ : Fin 128)]
  · rw [if_pos (by simp only []; omega), if_pos (by simp only []; omega), if_pos (by simp only []; omega), if_neg (by simp only []; omega), mul_one,
      ← EReal.coe_mul, ← EReal.coe_add]
    refine congrArg _ ?_
    push_cast; ring
  · intro h; have := congrArg Fin.val h; simp only [] at this; omega
  · intro d _ hd
    rw [if_neg, mul_zero]
    intro h
    rcases Nat.mod_two_eq_zero_or_one d.val with h2 | h2
    · exact hd.1 (Fin.ext (by simp only []; omega))
    · exact hd.2 (Fin.ext (by simp only []; omega))
  · intro h; exact absurd (Finset.mem_univ _) h
  · intro h; exact absurd (Finset.mem_univ _) h

theorem pack_byte (n : Fin 128 → ℕ) (hn : ∀ d, n d ≤ 15) (w : Fin 64) (pk : Fin 128 → EReal)
    (hp : ∀ d, pk d = if d.val / 2 = w.val then (if d.val % 2 = 0 then (1 : EReal) else ((16 : ℝ) : EReal)) else 0) :
    (FloatOps.fptosi (F := Ideal) (φ := .f32) 32 (∑ d : Fin 128, ((n d : ℝ) : EReal) * pk d)).truncate 8
      = byteOf (n ⟨2 * w.val, by omega⟩) (n ⟨2 * w.val + 1, by omega⟩) := by
  rw [Finset.sum_congr rfl fun d _ => congrArg (_ * ·) (hp d), pack_sum, fptosi_nat _ (by have h1 := hn ⟨2 * w.val, by omega⟩; have h2 := hn ⟨2 * w.val + 1, by omega⟩; omega)]
  unfold byteOf
  exact BitVec.eq_of_toNat_eq (by simp)

end Cert.KernelIdeal.Gen

end
-- ==== Proof.Arrays.lean ====
/- The kernel's seven result arrays, over the argument arrays. -/
module

public import proofs.«01_k».proof.Proof.Blocks
public import proofs.«01_k».proof.Proof.Pack

@[expose] public section

set_option maxRecDepth 16384

noncomputable section

namespace Cert.KernelIdeal.Gen

open Idealize.ShloMosaic Idealize.ShloMosaic.TcCoe Idealize.ShloMosaic.Tactic Cert.Spec

variable (m : (ℓ : Loc nD τ sig) → Buf (Elt Ideal) ℓ) (c : Dev nD)

abbrev aX : Vec Ideal S8x4x4096 .bf16 := m ((c : Thread nD τ).loc main_arg0)
abbrev aKN : Vec Ideal S8x4x2x128 .bf16 := m ((c : Thread nD τ).loc main_arg1)
abbrev aVN : Vec Ideal S8x4x2x128 .bf16 := m ((c : Thread nD τ).loc main_arg2)
abbrev aKC : Vec Ideal S8x16256x2x64 .i8 := m ((c : Thread nD τ).loc main_arg3)
abbrev aKS : Vec Ideal S8x508x2x128 .f32 := m ((c : Thread nD τ).loc main_arg4)
abbrev aKZ : Vec Ideal S8x508x2x128 .f32 := m ((c : Thread nD τ).loc main_arg5)
abbrev aVC : Vec Ideal S8x16256x2x64 .i8 := m ((c : Thread nD τ).loc main_arg6)
abbrev aVS : Vec Ideal S8x16256x2 .f32 := m ((c : Thread nD τ).loc main_arg7)
abbrev aVZ : Vec Ideal S8x16256x2 .f32 := m ((c : Thread nD τ).loc main_arg8)
abbrev aKT : Vec Ideal S8x128x2x128 .bf16 := m ((c : Thread nD τ).loc main_arg9)
abbrev aVT : Vec Ideal S8x128x2x128 .bf16 := m ((c : Thread nD τ).loc main_arg10)

theorem kcol_blk (t : Fin cfg0.N) (d : Fin 128) : kcol (iblk m c 10 t) d = kcolA (aKN m c) (uAb t) (uAh t) d := by
  funext s
  exact (blk_10 m c t s d).trans (V_v9 m c _ _ s d)
theorem vrow_blk (t : Fin cfg0.N) (s : Fin 4) : vrow (iblk m c 11 t) s = vrowA (aVN m c) (uBb t) (uBh t) s := by
  funext d
  exact (blk_11 m c t s d).trans (V_v10 m c _ _ s d)

theorem scr_blk (t : Fin cfg0.N) (r : Fin 64) (key : Fin 128 → EReal) :
    scr (iblk m c 0 t) r key = ∑ d, qA (aX m c) (uAb t) (uAh t) r d * key d := by
  unfold scr
  exact Finset.sum_congr rfl fun d _ => congrArg (· * key d) ((blk_0 m c t r d).trans (V_v2 m c _ _ r d))

theorem uAh_eq (t : Fin cfg0.N) : (⟨(min (grid0.coords t 0).val 15) % 2, by omega⟩ : Fin 2) = uAh t :=
  Fin.ext (by simp only [uAh]; rw [coords_val])
theorem uBh_eq (t : Fin cfg0.N) : (⟨((grid0.coords t 0).val - 1) % 2, by omega⟩ : Fin 2) = uBh t :=
  Fin.ext (by simp only [uBh]; rw [coords_val])

theorem key_blk (t : Fin cfg0.N) (d : Fin 128) (k : Fin 16256) :
    keyV (iblk m c 2 t) (iblk m c 3 t) (iblk m c 4 t) (uAh t) d k = keyA (aKC m c) (aKS m c) (aKZ m c) (uAb t) (uAh t) d k := by
  unfold keyV keyA
  refine congrArg₂ (· + ·) (congrArg₂ (· * ·) (congrArg (fun w => FloatOps.sitofp (F := Ideal) .bf16 (nib w (d.val % 2)))
    ((blk_2 m c t _ k).trans (V_v3 m c _ _ _ k))) ?_) ?_
  · exact (blk_3 m c t _ _ d).trans (congrFun (V_main_arg4 m c) _)
  · exact (blk_4 m c t _ _ d).trans (congrFun (V_main_arg5 m c) _)

theorem val_blk (t : Fin cfg0.N) (d : Fin 128) (k : Fin 16256) :
    valV (iblk m c 5 t) (iblk m c 6 t) (iblk m c 7 t) (uBh t) d k = valA (aVC m c) (aVS m c) (aVZ m c) (uBb t) (uBh t) d k := by
  unfold valV valA
  refine congrArg₂ (· + ·) (congrArg₂ (· * ·) (congrArg (fun w => FloatOps.sitofp (F := Ideal) .bf16 (nib w (d.val % 2)))
    ((blk_5 m c t _ k).trans (V_v4 m c _ _ _ k))) ?_) ?_
  · exact (blk_6 m c t _ k).trans (V_v5 m c _ _ k)
  · exact (blk_7 m c t _ k).trans (V_v6 m c _ _ k)

theorem ptS_eq (t : Fin cfg0.N) : ptS m c t = SA (aX m c) (aKC m c) (aKS m c) (aKZ m c) (uAb t) (uAh t) := by
  funext r k
  unfold ptS cacheS SA
  rw [uAh_eq, scr_blk]
  exact Finset.sum_congr rfl fun d _ => congrArg (_ * ·) (key_blk m c t d k)

theorem newK_blk (t : Fin cfg0.N) (j : ℕ) (d : Fin 128) : newK (iblk m c 10 t) j d = newKA (aKN m c) (uAb t) (uAh t) j d := by
  unfold newK newKA
  rw [kcol_blk]

theorem newV_blk (t : Fin cfg0.N) (j : ℕ) (d : Fin 128) : newV (iblk m c 11 t) j d = newVA (aVN m c) (uBb t) (uBh t) j d := by
  unfold newV newVA
  split
  · rw [vrow_blk]
  · rfl

theorem ptE_eq (t : Fin cfg0.N) : ptE m c t = EA (aX m c) (aKN m c) (aKT m c) (uAb t) (uAh t) := by
  funext r j
  unfold ptE ownS EA
  split
  · rw [scr_blk]
    exact Finset.sum_congr rfl fun d _ => congrArg (_ * ·) ((blk_8 m c t _ d).trans (V_v7 m c _ _ _ d))
  · split
    · rw [scr_blk]
      exact Finset.sum_congr rfl fun d _ => congrArg (_ * ·) (newK_blk m c t _ d)
    · rfl

theorem ownV_eq (t : Fin cfg0.N) : ownV (iblk m c 9 t) (iblk m c 11 t) = WA (aVN m c) (aVT m c) (uBb t) (uBh t) := by
  funext d j
  unfold ownV WA
  split
  · exact (blk_9 m c t _ d).trans (V_v8 m c _ _ _ d)
  · exact newV_blk m c t _ d

theorem uA_pvt (t : Fin cfg0.N) : uAb (pvt t) = uBb t ∧ uAh (pvt t) = uBh t := by
  have h : t.val < 17 := Nat.lt_of_lt_of_eq t.isLt N_0
  constructor <;> refine Fin.ext ?_ <;> simp only [uAb, uBb, uAh, uBh, pvt] <;> omega

/-- The attention block of a unit. -/
theorem yVal_blk (t : Fin cfg0.N) (h : t.val ≠ 0) (r : Fin 64) (d : Fin 128) :
    yVal (grid0.coords t) (stS m c t) (stE m c t) (iblk m c 5 t) (iblk m c 6 t) (iblk m c 7 t) (iblk m c 9 t) (iblk m c 11 t) (ix4 0 0 r d)
      = yA (aX m c) (aKN m c) (aVN m c) (aKC m c) (aKS m c) (aKZ m c) (aVC m c) (aVS m c) (aVZ m c) (aKT m c) (aVT m c) (uBb t) (uBh t) r d := by
  have hS : stS m c t = SA (aX m c) (aKC m c) (aKS m c) (aKZ m c) (uBb t) (uBh t) := by
    unfold stS; rw [if_neg h, ptS_eq, (uA_pvt t).1, (uA_pvt t).2]
  have hE : stE m c t = EA (aX m c) (aKN m c) (aKT m c) (uBb t) (uBh t) := by
    unfold stE; rw [if_neg h, ptE_eq, (uA_pvt t).1, (uA_pvt t).2]
  have hV : valV (iblk m c 5 t) (iblk m c 6 t) (iblk m c 7 t) (uBh t) = valA (aVC m c) (aVS m c) (aVZ m c) (uBb t) (uBh t) :=
    funext fun d => funext fun k => val_blk m c t d k
  unfold yVal yA
  rw [uBh_eq, hS, hE, hV, ownV_eq]
  rfl

/-! ## The arrays -/

theorem knc_blk (t : Fin cfg0.N) (s : Fin 4) (w : Fin 64) :
    k0_pay164 (k0_pay163 (iblk m c 10 t) (iblk m c 12 t)) (ix4 0 0 s w) = kncA (aKN m c) (uAb t) (uAh t) s w := by
  refine (pay164_apply _ _ s w).trans ((congrArg (fun z => (FloatOps.fptosi (F := Ideal) (φ := .f32) 32 z).truncate 8)
    (Finset.sum_congr rfl fun d _ => congrArg (· * iblk m c 12 t (ix2 d w)) (qcd_eq (kcol (iblk m c 10 t) d) (kcol (iblk m c 10 t) d s)))).trans
    ((pack_byte (fun d => qn (kcol (iblk m c 10 t) d) (kcol (iblk m c 10 t) d s)) (fun d => qn_le _ _) w _
      (fun d => (blk_12 m c t d w).trans (V_v25 m c d w))).trans ?_))
  simp only [kcol_blk]
  rfl

theorem vnc_blk (t : Fin cfg0.N) (s : Fin 4) (w : Fin 64) :
    k0_pay317 (k0_pay313 (iblk m c 11 t)) (Scalar.ofBits .f32 0x00000000#32) (Scalar.ofBits .f32 0x41700000#32) (iblk m c 12 t) (ix4 0 0 s w)
      = vncA (aVN m c) (uBb t) (uBh t) s w := by
  refine (pay317_apply _ _ s w).trans ((congrArg (fun z => (FloatOps.fptosi (F := Ideal) (φ := .f32) 32 z).truncate 8)
    (Finset.sum_congr rfl fun d _ => congrArg (· * iblk m c 12 t (ix2 d w)) (qcd_eq (vrow (iblk m c 11 t) s) (vrow (iblk m c 11 t) s d)))).trans
    ((pack_byte (fun d => qn (vrow (iblk m c 11 t) s) (vrow (iblk m c 11 t) s d)) (fun d => qn_le _ _) w _
      (fun d => (blk_12 m c t d w).trans (V_v25 m c d w))).trans ?_))
  simp only [vrow_blk]
  rfl

theorem ix4_ex {p q : ℕ} (y : (⟨4, ![1, 1, p, q]⟩ : Shape).Idx) : ∃ (s : Fin p) (d : Fin q), y = ix4 0 0 s d := by
  refine ⟨⟨(y 2).val, (y 2).isLt⟩, ⟨(y 3).val, (y 3).isLt⟩, ?_⟩
  funext a
  fin_cases a
  · exact Fin.ext (Nat.lt_one_iff.mp (y 0).isLt)
  · exact Fin.ext (Nat.lt_one_iff.mp (y 1).isLt)
  · rfl
  · rfl

/-- Result 0. -/
def G13 : Vec Ideal S8x2x64x128 .bf16 :=
  fun ix => (yA (aX m c) (aKN m c) (aVN m c) (aKC m c) (aKS m c) (aKZ m c) (aVC m c) (aVS m c) (aVZ m c) (aKT m c) (aVT m c)) (⟨(ix 0).val, (ix 0).isLt⟩ : Fin 8) (⟨(ix 1).val, (ix 1).isLt⟩ : Fin 2) (⟨(ix 2).val, (ix 2).isLt⟩ : Fin 64) (⟨(ix 3).val, (ix 3).isLt⟩ : Fin 128)

theorem arr_13 : (datv m 0 c).arrAt 13 cfg0.N = G13 m c := by
  refine (datv m 0 c).arrAt_eq_of_covers 13 _ (by decide +kernel) fun t hf y => ?_
  blk_simp
  rw [afterv_13]
  obtain ⟨s, d, rfl⟩ := ix4_ex (p := 64) (q := 128) y
  refine Eq.trans ?_ (congrArg (G13 m c) (?_ : ix4 (uBb t) (uBh t) s d = _))
  swap
  · blk_ext [idx_13 t, uBb, uBh]
  exact yVal_blk m c t (flush_13 t hf) s d

/-- Result 1. -/
def G14 : Vec Ideal S8x2x4x64 .i8 :=
  fun ix => (kncA (aKN m c)) (⟨(ix 0).val, (ix 0).isLt⟩ : Fin 8) (⟨(ix 1).val, (ix 1).isLt⟩ : Fin 2) (⟨(ix 2).val, (ix 2).isLt⟩ : Fin 4) (⟨(ix 3).val, (ix 3).isLt⟩ : Fin 64)

theorem arr_14 : (datv m 0 c).arrAt 14 cfg0.N = G14 m c := by
  refine (datv m 0 c).arrAt_eq_of_covers 14 _ (by decide +kernel) fun t hf y => ?_
  blk_simp
  rw [afterv_14]
  obtain ⟨s, d, rfl⟩ := ix4_ex (p := 4) (q := 64) y
  refine Eq.trans ?_ (congrArg (G14 m c) (?_ : ix4 (uAb t) (uAh t) s d = _))
  swap
  · blk_ext [idx_14 t, uAb, uAh]
  exact knc_blk m c t s d

/-- Result 2. -/
def G15 : Vec Ideal S8x2x1x128 .f32 :=
  fun ix => (fun b h (_ : Fin 1) d => qsc (kcolA (aKN m c) b h d)) (⟨(ix 0).val, (ix 0).isLt⟩ : Fin 8) (⟨(ix 1).val, (ix 1).isLt⟩ : Fin 2) (⟨(ix 2).val, (ix 2).isLt⟩ : Fin 1) (⟨(ix 3).val, (ix 3).isLt⟩ : Fin 128)

theorem arr_15 : (datv m 0 c).arrAt 15 cfg0.N = G15 m c := by
  refine (datv m 0 c).arrAt_eq_of_covers 15 _ (by decide +kernel) fun t hf y => ?_
  blk_simp
  rw [afterv_15]
  obtain ⟨s, d, rfl⟩ := ix4_ex (p := 1) (q := 128) y
  refine Eq.trans ?_ (congrArg (G15 m c) (?_ : ix4 (uAb t) (uAh t) s d = _))
  swap
  · blk_ext [idx_15 t, uAb, uAh]
  obtain rfl : s = 0 := Subsingleton.elim _ _
  exact (pay161_apply _ d).trans (congrArg qsc (kcol_blk m c t d))

/-- Result 3. -/
def G16 : Vec Ideal S8x2x1x128 .f32 :=
  fun ix => (fun b h (_ : Fin 1) d => qlo (kcolA (aKN m c) b h d)) (⟨(ix 0).val, (ix 0).isLt⟩ : Fin 8) (⟨(ix 1).val, (ix 1).isLt⟩ : Fin 2) (⟨(ix 2).val, (ix 2).isLt⟩ : Fin 1) (⟨(ix 3).val, (ix 3).isLt⟩ : Fin 128)

theorem arr_16 : (datv m 0 c).arrAt 16 cfg0.N = G16 m c := by
  refine (datv m 0 c).arrAt_eq_of_covers 16 _ (by decide +kernel) fun t hf y => ?_
  blk_simp
  rw [afterv_16]
  obtain ⟨s, d, rfl⟩ := ix4_ex (p := 1) (q := 128) y
  refine Eq.trans ?_ (congrArg (G16 m c) (?_ : ix4 (uAb t) (uAh t) s d = _))
  swap
  · blk_ext [idx_16 t, uAb, uAh]
  obtain rfl : s = 0 := Subsingleton.elim _ _
  exact (pay162_apply _ d).trans (congrArg qlo (kcol_blk m c t d))

/-- Result 4. -/
def G17 : Vec Ideal S8x2x4x64 .i8 :=
  fun ix => (vncA (aVN m c)) (⟨(ix 0).val, (ix 0).isLt⟩ : Fin 8) (⟨(ix 1).val, (ix 1).isLt⟩ : Fin 2) (⟨(ix 2).val, (ix 2).isLt⟩ : Fin 4) (⟨(ix 3).val, (ix 3).isLt⟩ : Fin 64)

theorem arr_17 : (datv m 0 c).arrAt 17 cfg0.N = G17 m c := by
  refine (datv m 0 c).arrAt_eq_of_covers 17 _ (by decide +kernel) fun t hf y => ?_
  blk_simp
  rw [afterv_17]
  obtain ⟨s, d, rfl⟩ := ix4_ex (p := 4) (q := 64) y
  refine Eq.trans ?_ (congrArg (G17 m c) (?_ : ix4 (uBb t) (uBh t) s d = _))
  swap
  · blk_ext [idx_17 t, uBb, uBh]
  exact vnc_blk m c t s d

/-- Result 5. -/
def G18 : Vec Ideal S8x2x4x128 .f32 :=
  fun ix => (fun b h s (_ : Fin 128) => qsc (vrowA (aVN m c) b h s)) (⟨(ix 0).val, (ix 0).isLt⟩ : Fin 8) (⟨(ix 1).val, (ix 1).isLt⟩ : Fin 2) (⟨(ix 2).val, (ix 2).isLt⟩ : Fin 4) (⟨(ix 3).val, (ix 3).isLt⟩ : Fin 128)

theorem arr_18 : (datv m 0 c).arrAt 18 cfg0.N = G18 m c := by
  refine (datv m 0 c).arrAt_eq_of_covers 18 _ (by decide +kernel) fun t hf y => ?_
  blk_simp
  rw [afterv_18]
  obtain ⟨s, d, rfl⟩ := ix4_ex (p := 4) (q := 128) y
  refine Eq.trans ?_ (congrArg (G18 m c) (?_ : ix4 (uBb t) (uBh t) s d = _))
  swap
  · blk_ext [idx_18 t, uBb, uBh]
  exact (pay315_apply _ s d).trans (congrArg qsc (vrow_blk m c t s))

/-- Result 6. -/
def G19 : Vec Ideal S8x2x4x128 .f32 :=
  fun ix => (fun b h s (_ : Fin 128) => qlo (vrowA (aVN m c) b h s)) (⟨(ix 0).val, (ix 0).isLt⟩ : Fin 8) (⟨(ix 1).val, (ix 1).isLt⟩ : Fin 2) (⟨(ix 2).val, (ix 2).isLt⟩ : Fin 4) (⟨(ix 3).val, (ix 3).isLt⟩ : Fin 128)

theorem arr_19 : (datv m 0 c).arrAt 19 cfg0.N = G19 m c := by
  refine (datv m 0 c).arrAt_eq_of_covers 19 _ (by decide +kernel) fun t hf y => ?_
  blk_simp
  rw [afterv_19]
  obtain ⟨s, d, rfl⟩ := ix4_ex (p := 4) (q := 128) y
  refine Eq.trans ?_ (congrArg (G19 m c) (?_ : ix4 (uBb t) (uBh t) s d = _))
  swap
  · blk_ext [idx_19 t, uBb, uBh]
  exact (pay316_apply _ s d).trans (congrArg qlo (vrow_blk m c t s))

end Cert.KernelIdeal.Gen

end
-- ==== Proof.RefAttn.lean ====
/- A softmax over the reference's 16388 keys is the one over the kernel's, whose further columns are masked. -/
module

public import proofs.«01_k».proof.Proof.Pack

@[expose] public section

noncomputable section

namespace Cert.KernelIdeal.Gen

open Idealize.ShloMosaic

theorem sum_key (g : Fin 16256 ⊕ Fin 256 → EReal) (u : Fin 16388 → EReal) (h0 : ∀ j : Fin 256, 132 ≤ j.val → g (.inr j) = 0)
    (h1 : ∀ t : Fin 16256, u ⟨t.val, by omega⟩ = g (.inl t)) (h2 : ∀ j : Fin 132, u ⟨16256 + j.val, by omega⟩ = g (.inr ⟨j.val, by omega⟩)) :
    ∑ t, u t = ∑ t, g t := by
  rw [sum_append 16256 132 16388 rfl u, Fintype.sum_sum_type, sum_append 132 124 256 rfl fun j => g (.inr j)]
  rw [Finset.sum_congr rfl fun t _ => h1 t, Finset.sum_congr rfl fun t _ => h2 t]
  rw [Finset.sum_eq_zero fun (t : Fin 124) _ => h0 ⟨132 + t.val, by omega⟩ (by simp), add_zero]

theorem div_bot : Ideal.div ⊥ ((Real.sqrt 128 : ℝ) : EReal) = ⊥ := by
  have h : 0 < Real.sqrt 128 := Real.sqrt_pos.mpr (by norm_num)
  rw [Ideal.div_coe h.ne']
  exact EReal.bot_mul_coe_of_pos (by positivity)

/-- A masked column weighs nothing. -/
theorem exp_bot_sub (M : EReal) : Ideal.exp (⊥ - M) = 0 := by
  rw [show (⊥ : EReal) - M = ⊥ from EReal.bot_sub M]
  rfl

theorem attn_ref (S : Fin 64 → Fin 16256 → EReal) (E : Fin 64 → Fin 256 → EReal) (V : Fin 128 → Fin 16256 → EReal)
    (W : Fin 128 → Fin 256 → EReal) (r : Fin 64) (d : Fin 128) (hE : ∀ j : Fin 256, 132 ≤ j.val → E r j = ⊥)
    (s v : Fin 16388 → EReal)
    (s1 : ∀ t : Fin 16256, s ⟨t.val, by omega⟩ = Ideal.div (S r t) ((Real.sqrt 128 : ℝ) : EReal))
    (s2 : ∀ j : Fin 132, s ⟨16256 + j.val, by omega⟩ = Ideal.div (E r ⟨j.val, by omega⟩) ((Real.sqrt 128 : ℝ) : EReal))
    (v1 : ∀ t : Fin 16256, v ⟨t.val, by omega⟩ = V d t) (v2 : ∀ j : Fin 132, v ⟨16256 + j.val, by omega⟩ = W d ⟨j.val, by omega⟩) :
    Ideal.div (∑ t, Ideal.exp (s t - max mBot (Finset.univ.fold max ⊥ s)) * v t) (∑ t, Ideal.exp (s t - max mBot (Finset.univ.fold max ⊥ s)))
      = attn S E V W r d := by
  have hcase : ∀ t : Fin 16388, (∃ a : Fin 16256, t = ⟨a.val, by omega⟩) ∨ ∃ j : Fin 132, t = ⟨16256 + j.val, by omega⟩ := fun t => by
    rcases Nat.lt_or_ge t.val 16256 with h | h
    · exact Or.inl ⟨⟨t.val, h⟩, rfl⟩
    · exact Or.inr ⟨⟨t.val - 16256, by omega⟩, Fin.ext (by show t.val = 16256 + (t.val - 16256); omega)⟩
  have hM : max mBot (Finset.univ.fold max ⊥ s) = rowM S E r := by
    obtain ⟨a1, a2, a3⟩ := fold_max_facts (⊥ : EReal) s
    obtain ⟨b1, b2, b3⟩ := fold_max_facts mBot fun t => Ideal.div (rowS S E r t) ((Real.sqrt 128 : ℝ) : EReal)
    refine le_antisymm (max_le b1 ?_) ?_
    · rcases a3 with h | ⟨t, h⟩
      · rw [h]; exact bot_le
      · rw [h]
        rcases hcase t with ⟨a, rfl⟩ | ⟨j, rfl⟩
        · rw [s1]; exact b2 (.inl a)
        · rw [s2]; exact b2 (.inr _)
    · unfold rowM
      rcases b3 with h | ⟨t, h⟩
      · rw [h]; exact le_max_left _ _
      · rw [h]
        rcases t with a | j
        · exact ((s1 a).symm.le.trans (a2 _)).trans (le_max_right _ _)
        · by_cases hj : 132 ≤ j.val
          · simp only [rowS, Sum.elim_inr]
            rw [hE j hj, div_bot]; exact bot_le
          · exact ((s2 ⟨j.val, by omega⟩).symm.le.trans (a2 _)).trans (le_max_right _ _)
  rw [hM]
  unfold attn
  have hz : ∀ j : Fin 256, 132 ≤ j.val → Ideal.exp (Ideal.div (rowS S E r (.inr j)) ((Real.sqrt 128 : ℝ) : EReal) - rowM S E r) = 0 := fun j hj => by
    simp only [rowS, Sum.elim_inr]
    rw [hE j hj, div_bot, exp_bot_sub]
  refine congrArg₂ Ideal.div (sum_key _ _ (fun j hj => ?_) (fun t => ?_) (fun j => ?_)) (sum_key _ _ hz (fun t => ?_) (fun j => ?_))
  · simp only [hz j hj, zero_mul]
  · simp only [s1, v1, rowS, Sum.elim_inl]
  · simp only [s2, v2, rowS, Sum.elim_inr]
  · simp only [s1, rowS, Sum.elim_inl]
  · simp only [s2, rowS, Sum.elim_inr]

end Cert.KernelIdeal.Gen

end
-- ==== Proof.RefQuant.lean ====
/- What the reference's quantiser computes at an index, over the extended reals. -/
module

public import proofs.«01_k».proof.Proof.Pack
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.KernelIdeal.Gen (qlo qhi qsc qcd nib attn fptosi_nat)
open Cert.Spec

variable (V0 : Valuation τ sig (Elt Ideal))

abbrev rX : Vec Ideal S8x4x4096 .bf16 := V0 (Proc.devRef .tc main_arg0)
abbrev rKN : Vec Ideal S8x4x2x128 .bf16 := V0 (Proc.devRef .tc main_arg1)
abbrev rVN : Vec Ideal S8x4x2x128 .bf16 := V0 (Proc.devRef .tc main_arg2)
abbrev rKC : Vec Ideal S8x16256x2x64 .i8 := V0 (Proc.devRef .tc main_arg3)
abbrev rKS : Vec Ideal S8x508x2x128 .f32 := V0 (Proc.devRef .tc main_arg4)
abbrev rKZ : Vec Ideal S8x508x2x128 .f32 := V0 (Proc.devRef .tc main_arg5)
abbrev rVC : Vec Ideal S8x16256x2x64 .i8 := V0 (Proc.devRef .tc main_arg6)
abbrev rVS : Vec Ideal S8x16256x2 .f32 := V0 (Proc.devRef .tc main_arg7)
abbrev rVZ : Vec Ideal S8x16256x2 .f32 := V0 (Proc.devRef .tc main_arg8)
abbrev rKT : Vec Ideal S8x128x2x128 .bf16 := V0 (Proc.devRef .tc main_arg9)
abbrev rVT : Vec Ideal S8x128x2x128 .bf16 := V0 (Proc.devRef .tc main_arg10)

variable (b : Fin 8) (h : Fin 2) (s : Fin 4) (d : Fin 128)

/-- The codes' clip bounds are the integers 15 and 0. -/
theorem clip_15 : FloatOps.sitofp (F := Ideal) .f32 (15#32) = Ideal.ofBits .f32 0x41700000#32 := by
  rw [ofBits_15]
  show (((15#32 : BitVec 32).toInt : ℝ) : EReal) = _
  rw [show (15#32 : BitVec 32).toInt = 15 from by decide]
  norm_num

theorem clip_0 : FloatOps.sitofp (F := Ideal) .f32 (0#32) = (0 : EReal) := by
  show (((0#32 : BitVec 32).toInt : ℝ) : EReal) = _
  rw [show (0#32 : BitVec 32).toInt = 0 from by decide]
  norm_num

theorem byte_fin : ∀ a c : Fin 16, BitVec.setWidth 8 (IntOp.ori (BitVec.ofNat 32 a.val) (IntOp.shli ArithUnit.host (BitVec.ofNat 32 c.val) 4#32)) = byteOf a.val c.val := by
  decide +kernel

/-- Or-ing one code with another shifted up by four bits packs the two. -/
theorem byte_or (a c : ℕ) (ha : a ≤ 15) (hc : c ≤ 15) :
    BitVec.setWidth 8 (IntOp.ori (BitVec.ofNat 32 a) (IntOp.shli ArithUnit.host (BitVec.ofNat 32 c) 4#32)) = byteOf a c :=
  byte_fin ⟨a, by omega⟩ ⟨c, by omega⟩

theorem code_word {n : ℕ} (f : Fin n → EReal) (x : EReal) : FloatOps.fptosi (F := Ideal) (φ := .f32) 32 (qcd f x) = BitVec.ofNat 32 (qn f x) :=
  (congrArg (FloatOps.fptosi (F := Ideal) (φ := .f32) 32) (qcd_eq f x)).trans (fptosi_nat _ (by have := qn_le f x; omega))

/-! ## The keys -/

theorem v1_apply : res_main_v1 V0 (ix4 b s h d) = kcolA (rKN V0) b h d s := rfl

theorem v3_apply : res_main_v3 V0 (ix4 b 0 h d) = qlo (kcolA (rKN V0) b h d) := by
  unfold res_main_v3
  clean_types
  pointwise [qlo, v1_apply]

theorem v6_apply : res_main_v6 V0 (ix4 b 0 h d) = qhi (kcolA (rKN V0) b h d) - qlo (kcolA (rKN V0) b h d) := by
  unfold res_main_v6
  clean_types
  pointwise [qhi, v1_apply, v3_apply]

theorem v11_apply : res_main_v11 V0 (ix4 b 0 h d) = qsc (kcolA (rKN V0) b h d) := by
  unfold res_main_v11
  clean_types
  pointwise [qsc, v6_apply]

theorem v18_apply : res_main_v18 V0 (ix4 b s h d) = BitVec.ofNat 32 (qn (kcolA (rKN V0) b h d) (kcolA (rKN V0) b h d s)) := by
  refine Eq.trans ?_ (code_word _ _)
  unfold res_main_v18
  clean_types
  pointwise [qcd, v1_apply, v3_apply, v11_apply]
  rw [clip_15, clip_0]

theorem v24_apply (w : Fin 64) : res_main_v24 V0 (ix4 b s h w) = kncA (rKN V0) b h s w := by
  refine Eq.trans ?_ (byte_or _ _ (qn_le _ _) (qn_le _ _))
  unfold res_main_v24
  clean_types
  pointwise [v18_apply, kcolA, Nat.add_comm 1]

/-! ## The values -/

theorem v25_apply : res_main_v25 V0 (ix4 b s h d) = vrowA (rVN V0) b h s d := rfl

theorem v27_apply : res_main_v27 V0 (ix4 b s h 0) = qlo (vrowA (rVN V0) b h s) := by
  unfold res_main_v27
  clean_types
  pointwise [qlo, v25_apply]

theorem v30_apply : res_main_v30 V0 (ix4 b s h 0) = qhi (vrowA (rVN V0) b h s) - qlo (vrowA (rVN V0) b h s) := by
  unfold res_main_v30
  clean_types
  pointwise [qhi, v25_apply, v27_apply]

theorem v35_apply : res_main_v35 V0 (ix4 b s h 0) = qsc (vrowA (rVN V0) b h s) := by
  unfold res_main_v35
  clean_types
  pointwise [qsc, v30_apply]

theorem v42_apply : res_main_v42 V0 (ix4 b s h d) = BitVec.ofNat 32 (qn (vrowA (rVN V0) b h s) (vrowA (rVN V0) b h s d)) := by
  refine Eq.trans ?_ (code_word _ _)
  unfold res_main_v42
  clean_types
  pointwise [qcd, v25_apply, v27_apply, v35_apply]
  rw [clip_15, clip_0]

theorem v48_apply (w : Fin 64) : res_main_v48 V0 (ix4 b s h w) = vncA (rVN V0) b h s w := by
  refine Eq.trans ?_ (byte_or _ _ (qn_le _ _) (qn_le _ _))
  unfold res_main_v48
  clean_types
  pointwise [v42_apply, vrowA, Nat.add_comm 1]

end Cert.ReferenceIdeal.Value

end
-- ==== Proof.RefVals.lean ====
/- What the reference computes at an index, over the extended reals: its keys, its values, its softmax. -/
module

public import proofs.«01_k».proof.Proof.RefAttn
public import proofs.«01_k».proof.Proof.RefQuant

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.KernelIdeal.Gen (qlo qhi qsc qcd nib attn attn_ref mBot div_bot)
open Cert.Spec

/-! ## Unpacking -/

/-- The codes of the words `w`, two to a word. -/
def unC (w : Vec Ideal S8x16256x2x64 .i32) : FVec Ideal S8x16256x2x128 .bf16 :=
  (sitofp .bf16 (shapeCast _ (concatenate S8x16256x2x64x2 4 [⟨S8x16256x2x64x1, (broadcastInDim S8x16256x2x64x1 ![0, 1, 2, 3] bcast_S8x16256x2x64_S8x16256x2x64x1_0_1_2_3 (andi w (broadcastInDim S8x16256x2x64 ![] bcast_S_S8x16256x2x64 (constantI S_ 32 15#32))))⟩, ⟨S8x16256x2x64x1, (broadcastInDim S8x16256x2x64x1 ![0, 1, 2, 3] bcast_S8x16256x2x64_S8x16256x2x64x1_0_1_2_3 (Host.shrsi w (broadcastInDim S8x16256x2x64 ![] bcast_S_S8x16256x2x64 (constantI S_ 32 4#32))))⟩] concatenates_S8x16256x2x64x1_S8x16256x2x64x1_S8x16256x2x64x2_d4) shapeCasts_S8x16256x2x64x2_S8x16256x2x128))
def unN (w : Vec Ideal S8x4x2x64 .i32) : FVec Ideal S8x4x2x128 .bf16 :=
  (sitofp .bf16 (shapeCast _ (concatenate S8x4x2x64x2 4 [⟨S8x4x2x64x1, (broadcastInDim S8x4x2x64x1 ![0, 1, 2, 3] bcast_S8x4x2x64_S8x4x2x64x1_0_1_2_3 (andi w (broadcastInDim S8x4x2x64 ![] bcast_S_S8x4x2x64 (constantI S_ 32 15#32))))⟩, ⟨S8x4x2x64x1, (broadcastInDim S8x4x2x64x1 ![0, 1, 2, 3] bcast_S8x4x2x64_S8x4x2x64x1_0_1_2_3 (Host.shrsi w (broadcastInDim S8x4x2x64 ![] bcast_S_S8x4x2x64 (constantI S_ 32 4#32))))⟩] concatenates_S8x4x2x64x1_S8x4x2x64x1_S8x4x2x64x2_d4) shapeCasts_S8x4x2x64x2_S8x4x2x128))

theorem shr_vec (x : BitVec 32) : IntOp.shrsi .host x 4#32 = IntOp.shrsi .vector x 4#32 := by
  simp [IntOp.shrsi]

theorem unC_apply (w : Vec Ideal S8x16256x2x64 .i32) (x : BitVec 8) (b : Fin 8) (t : Fin 16256) (h : Fin 2) (d : Fin 128)
    (hw : w (ix4 b t h ⟨d.val / 2, by omega⟩) = x.setWidth 32) :
    unC w (ix4 b t h d) = FloatOps.sitofp (F := Ideal) .bf16 (nib x (d.val % 2)) := by
  have key : unC w (ix4 b t h d) = FloatOps.sitofp (F := Ideal) .bf16 (if _ : d.val % 2 < 1 then IntOp.andi (w (ix4 b t h ⟨d.val / 2, by omega⟩)) 15#32
      else IntOp.shrsi .host (w (ix4 b t h ⟨d.val / 2, by omega⟩)) 4#32) := by pointwise [unC]
  refine key.trans (congrArg (FloatOps.sitofp (F := Ideal) .bf16) ?_)
  unfold nib
  by_cases e : d.val % 2 < 1
  · rw [dif_pos e, if_pos (by omega)]
    exact congrArg (IntOp.andi · 15#32) hw
  · rw [dif_neg e, if_neg (by omega), shr_vec]
    exact congrArg (IntOp.shrsi .vector · 4#32) hw

theorem unN_apply (w : Vec Ideal S8x4x2x64 .i32) (x : BitVec 8) (b : Fin 8) (t : Fin 4) (h : Fin 2) (d : Fin 128)
    (hw : w (ix4 b t h ⟨d.val / 2, by omega⟩) = x.setWidth 32) :
    unN w (ix4 b t h d) = FloatOps.sitofp (F := Ideal) .bf16 (nib x (d.val % 2)) := by
  have key : unN w (ix4 b t h d) = FloatOps.sitofp (F := Ideal) .bf16 (if _ : d.val % 2 < 1 then IntOp.andi (w (ix4 b t h ⟨d.val / 2, by omega⟩)) 15#32
      else IntOp.shrsi .host (w (ix4 b t h ⟨d.val / 2, by omega⟩)) 4#32) := by pointwise [unN]
  refine key.trans (congrArg (FloatOps.sitofp (F := Ideal) .bf16) ?_)
  unfold nib
  by_cases e : d.val % 2 < 1
  · rw [dif_pos e, if_pos (by omega)]
    exact congrArg (IntOp.andi · 15#32) hw
  · rw [dif_neg e, if_neg (by omega), shr_vec]
    exact congrArg (IntOp.shrsi .vector · 4#32) hw

/-- A packed code comes back. -/
theorem nib_fin : ∀ a c : Fin 16, nib (byteOf a.val c.val) 0 = BitVec.ofNat 32 a.val ∧ nib (byteOf a.val c.val) 1 = BitVec.ofNat 32 c.val := by
  decide +kernel

theorem sitofp_nat (k : ℕ) (h : k ≤ 15) : FloatOps.sitofp (F := Ideal) .bf16 (BitVec.ofNat 32 k) = ((k : ℝ) : EReal) := by
  show (((BitVec.ofNat 32 k).toInt : ℝ) : EReal) = _
  rw [show (BitVec.ofNat 32 k).toInt = (k : ℤ) from by rw [BitVec.toInt_eq_toNat_bmod, BitVec.toNat_ofNat]; simp [Int.bmod]; omega]
  norm_num

theorem nib_code (n : Fin 128 → ℕ) (hn : ∀ d, n d ≤ 15) (d : Fin 128) :
    FloatOps.sitofp (F := Ideal) .bf16 (nib (byteOf (n ⟨2 * (d.val / 2), by omega⟩) (n ⟨2 * (d.val / 2) + 1, by omega⟩)) (d.val % 2)) = ((n d : ℝ) : EReal) := by
  have e := nib_fin ⟨n ⟨2 * (d.val / 2), by omega⟩, by have := hn ⟨2 * (d.val / 2), by omega⟩; omega⟩
    ⟨n ⟨2 * (d.val / 2) + 1, by omega⟩, by have := hn ⟨2 * (d.val / 2) + 1, by omega⟩; omega⟩
  rcases Nat.mod_two_eq_zero_or_one d.val with h | h
  · rw [h, e.1]
    refine (sitofp_nat _ (hn _)).trans (congrArg (fun i => ((n i : ℝ) : EReal)) (Fin.ext ?_))
    show 2 * (d.val / 2) = d.val
    omega
  · rw [h, e.2]
    refine (sitofp_nat _ (hn _)).trans (congrArg (fun i => ((n i : ℝ) : EReal)) (Fin.ext ?_))
    show 2 * (d.val / 2) + 1 = d.val
    omega

variable (V0 : Valuation τ sig (Elt Ideal)) (b : Fin 8) (h : Fin 2) (s : Fin 4) (d : Fin 128)

theorem unN_key : unN (res_main_v67 V0) (ix4 b s h d) = qcd (kcolA (rKN V0) b h d) (kcolA (rKN V0) b h d s) := by
  refine (unN_apply _ (kncA (rKN V0) b h s ⟨d.val / 2, by omega⟩) b s h d ?_).trans ?_
  · unfold res_main_v67
    exact congrArg (BitVec.setWidth 32) (v24_apply V0 b h s _)
  · refine (nib_code (fun d => qn (kcolA (rKN V0) b h d) (kcolA (rKN V0) b h d s)) (fun d => qn_le _ _) d).trans ?_
    exact (qcd_eq _ _).symm

theorem unN_val : unN (res_main_v102 V0) (ix4 b s h d) = qcd (vrowA (rVN V0) b h s) (vrowA (rVN V0) b h s d) := by
  refine (unN_apply _ (vncA (rVN V0) b h s ⟨d.val / 2, by omega⟩) b s h d ?_).trans ?_
  · unfold res_main_v102
    exact congrArg (BitVec.setWidth 32) (v48_apply V0 b h s _)
  · refine (nib_code (fun d => qn (vrowA (rVN V0) b h s) (vrowA (rVN V0) b h s d)) (fun d => qn_le _ _) d).trans ?_
    exact (qcd_eq _ _).symm

theorem unC_key (t : Fin 16256) : unC (res_main_v53 V0) (ix4 b t h d) = FloatOps.sitofp (F := Ideal) .bf16 (nib (rKC V0 (ix4 b t h ⟨d.val / 2, by omega⟩)) (d.val % 2)) :=
  unC_apply _ _ b t h d rfl

theorem unC_val (t : Fin 16256) : unC (res_main_v86 V0) (ix4 b t h d) = FloatOps.sitofp (F := Ideal) .bf16 (nib (rVC V0 (ix4 b t h ⟨d.val / 2, by omega⟩)) (d.val % 2)) :=
  unC_apply _ _ b t h d rfl

/-! ## All keys and all values -/

def refKeys : FVec Ideal S8x16388x2x128 .bf16 :=
  ((concatenate S8x16388x2x128 1 [⟨S8x16256x2x128, ((addf (mulf (unC (res_main_v53 V0)) (truncf .bf16 (shapeCast _ (broadcastInDim S8x508x32x2x128 ![0, 1, 3, 4] bcast_S8x508x2x128_S8x508x32x2x128_0_1_3_4 (V0 (Proc.devRef .tc main_arg4))) shapeCasts_S8x508x32x2x128_S8x16256x2x128) bitsLt_bf16_f32)) (truncf .bf16 (shapeCast _ (broadcastInDim S8x508x32x2x128 ![0, 1, 3, 4] bcast_S8x508x2x128_S8x508x32x2x128_0_1_3_4 (V0 (Proc.devRef .tc main_arg5))) shapeCasts_S8x508x32x2x128_S8x16256x2x128) bitsLt_bf16_f32)) : (⟨S8x16256x2x128, .bf16⟩ : BufTy).Contents (Elt Ideal))⟩, ⟨S8x128x2x128, ((V0 (Proc.devRef .tc main_arg9)) : (⟨S8x128x2x128, .bf16⟩ : BufTy).Contents (Elt Ideal))⟩, ⟨S8x4x2x128, ((addf (mulf (unN (res_main_v67 V0)) (broadcastInDim S8x4x2x128 ![0, 1, 2, 3] bcast_S8x1x2x128_S8x4x2x128_0_1_2_3 (truncf .bf16 (res_main_v11 V0) bitsLt_bf16_f32))) (broadcastInDim S8x4x2x128 ![0, 1, 2, 3] bcast_S8x1x2x128_S8x4x2x128_0_1_2_3 (truncf .bf16 (res_main_v3 V0) bitsLt_bf16_f32))) : (⟨S8x4x2x128, .bf16⟩ : BufTy).Contents (Elt Ideal))⟩] concatenates_S8x16256x2x128_S8x128x2x128_S8x4x2x128_S8x16388x2x128_d1 : (⟨S8x16388x2x128, .bf16⟩ : BufTy).Contents (Elt Ideal)))
def refVals : FVec Ideal S8x16388x2x128 .bf16 :=
  ((concatenate S8x16388x2x128 1 [⟨S8x16256x2x128, ((addf (mulf (unC (res_main_v86 V0)) (broadcastInDim S8x16256x2x128 ![0, 1, 2, 3] bcast_S8x16256x2x1_S8x16256x2x128_0_1_2_3 (truncf .bf16 (broadcastInDim S8x16256x2x1 ![0, 1, 2] bcast_S8x16256x2_S8x16256x2x1_0_1_2 (V0 (Proc.devRef .tc main_arg7))) bitsLt_bf16_f32))) (broadcastInDim S8x16256x2x128 ![0, 1, 2, 3] bcast_S8x16256x2x1_S8x16256x2x128_0_1_2_3 (truncf .bf16 (broadcastInDim S8x16256x2x1 ![0, 1, 2] bcast_S8x16256x2_S8x16256x2x1_0_1_2 (V0 (Proc.devRef .tc main_arg8))) bitsLt_bf16_f32))) : (⟨S8x16256x2x128, .bf16⟩ : BufTy).Contents (Elt Ideal))⟩, ⟨S8x128x2x128, ((V0 (Proc.devRef .tc main_arg10)) : (⟨S8x128x2x128, .bf16⟩ : BufTy).Contents (Elt Ideal))⟩, ⟨S8x4x2x128, ((addf (mulf (unN (res_main_v102 V0)) (broadcastInDim S8x4x2x128 ![0, 1, 2, 3] bcast_S8x4x2x1_S8x4x2x128_0_1_2_3 (truncf .bf16 (res_main_v35 V0) bitsLt_bf16_f32))) (broadcastInDim S8x4x2x128 ![0, 1, 2, 3] bcast_S8x4x2x1_S8x4x2x128_0_1_2_3 (truncf .bf16 (res_main_v27 V0) bitsLt_bf16_f32))) : (⟨S8x4x2x128, .bf16⟩ : BufTy).Contents (Elt Ideal))⟩] concatenates_S8x16256x2x128_S8x128x2x128_S8x4x2x128_S8x16388x2x128_d1 : (⟨S8x16388x2x128, .bf16⟩ : BufTy).Contents (Elt Ideal)))

theorem keys_cached (t : Fin 16256) : refKeys V0 (ix4 b (⟨t.val, by omega⟩ : Fin 16388) h d) = keyA (rKC V0) (rKS V0) (rKZ V0) b h d t := by
  unfold refKeys
  clean_types
  pointwise [unC_key, keyA]

theorem keys_tail (t : Fin 128) : refKeys V0 (ix4 b (⟨16256 + t.val, by omega⟩ : Fin 16388) h d) = rKT V0 (ix4 b t h d) := by
  unfold refKeys
  clean_types
  pointwise

theorem keys_new : refKeys V0 (ix4 b (⟨16384 + s.val, by omega⟩ : Fin 16388) h d) = newKA (rKN V0) b h s.val d := by
  unfold refKeys newKA
  clean_types
  pointwise [unN_key, v11_apply, v3_apply]
  have e : (⟨16384 + s.val - 16256 - 128, by omega⟩ : Fin 4) = s := Fin.ext (by show 16384 + s.val - 16256 - 128 = s.val; omega)
  simp only [dif_neg (show ¬ 16384 + s.val < 16256 by omega), dif_neg (show ¬ 16384 + s.val - 16256 < 128 by omega), e]

theorem vals_cached (t : Fin 16256) : refVals V0 (ix4 b (⟨t.val, by omega⟩ : Fin 16388) h d) = valA (rVC V0) (rVS V0) (rVZ V0) b h d t := by
  unfold refVals
  clean_types
  pointwise [unC_val, valA]

theorem vals_tail (t : Fin 128) : refVals V0 (ix4 b (⟨16256 + t.val, by omega⟩ : Fin 16388) h d) = rVT V0 (ix4 b t h d) := by
  unfold refVals
  clean_types
  pointwise

theorem vals_new : refVals V0 (ix4 b (⟨16384 + s.val, by omega⟩ : Fin 16388) h d) = newVA (rVN V0) b h s.val d := by
  unfold refVals newVA
  clean_types
  pointwise [unN_val, v35_apply, v27_apply]
  have e : (⟨16384 + s.val - 16256 - 128, by omega⟩ : Fin 4) = s := Fin.ext (by show 16384 + s.val - 16256 - 128 = s.val; omega)
  simp only [dif_neg (show ¬ 16384 + s.val < 16256 by omega), dif_neg (show ¬ 16384 + s.val - 16256 < 128 by omega), e]

/-! ## The scores -/

theorem sqrt_128 : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e]
  exact (Ideal.sqrt_coe _).trans (if_neg (by norm_num))

/-- Whether a row's token may see a key: cached keys and the tail always, the step's own up to the token itself. -/
theorem causal (s : Fin 4) (t : Fin 16388) :
    IntOp.cmpi CmpIPredicate.sle (IntOp.subi (BitVec.ofNat 32 t.val) 16384#32) (BitVec.ofNat 32 s.val) = if t.val ≤ 16384 + s.val then 1#1 else 0#1 := by
  have hs := s.isLt
  have ht := t.isLt
  have e1 : (BitVec.ofNat 32 t.val - 16384#32).toInt = (t.val : ℤ) - 16384 := by
    rw [BitVec.toInt_sub, BitVec.toInt_eq_toNat_bmod, BitVec.toNat_ofNat]
    simp [Int.bmod]
    omega
  have e2 : (BitVec.ofNat 32 s.val).toInt = (s.val : ℤ) := by
    rw [BitVec.toInt_eq_toNat_bmod, BitVec.toNat_ofNat]
    simp [Int.bmod]
    omega
  have e3 : (BitVec.ofNat 32 t.val - 16384#32).sle (BitVec.ofNat 32 s.val) = decide (t.val ≤ 16384 + s.val) := by
    rw [BitVec.sle_eq_decide, e1, e2]
    exact decide_eq_decide.mpr (by omega)
  show BitVec.ofBool ((BitVec.ofNat 32 t.val - 16384#32).sle (BitVec.ofNat 32 s.val)) = _
  rw [e3]
  by_cases h : t.val ≤ 16384 + s.val <;> simp [h]

/-- A query row's score against a key, unscaled. -/
def dotK (r : Fin 64) (t : Fin 16388) : EReal := ∑ d, qA (rX V0) b h r d * refKeys V0 (ix4 b t h d)

theorem v133_apply (a : Fin 16) (t : Fin 16388) :
    res_main_v133 V0 (ix5 b h a s t) = if t.val ≤ 16384 + s.val then Ideal.div (dotK V0 b h ⟨4 * a.val + s.val, by omega⟩ t) ((Real.sqrt 128 : ℝ) : EReal) else ⊥ := by
  have e : res_main_v133 V0 = select (broadcastInDim S8x2x16x4x16388 ![3, 4] bcast_S4x16388_S8x2x16x4x16388_3_4 (cmpi .sle (broadcastInDim S4x16388 ![0, 1] bcast_S1x16388_S4x16388_0_1 (subi (broadcastInDim S1x16388 ![1] bcast_S16388_S1x16388_1 (iotaInDim S16388 32 0)) (broadcastInDim S1x16388 ![] bcast_S_S1x16388 (constantI S_ 32 16384#32)))) (broadcastInDim S4x16388 ![0, 1] bcast_S4x1_S4x16388_0_1 (broadcastInDim S4x1 ![0] bcast_S4_S4x1_0 (iotaInDim S4 32 0))))) (Host.divf (transpose S8x2x16x4x16388 [0, 1, 4, 3, 2] (Host.dotGeneral dot_S8x16388x2x128_S8x4x2x16x128_S8x2x16388x4x16_3_4_1_13_02_02 none (refKeys V0) (shapeCast _ (V0 (Proc.devRef .tc main_arg0)) shapeCasts_S8x4x4096_S8x4x2x16x128)) transposes_S8x2x16388x4x16_S8x2x16x4x16388_0_1_4_3_2) (broadcastInDim S8x2x16x4x16388 ![] bcast_S_S8x2x16x4x16388 (Host.sqrt (constant S_ .f32 0x43000000#32)))) (broadcastInDim S8x2x16x4x16388 ![] bcast_S_S8x2x16x4x16388 (id (constant S_ .f32 0xFF800000#32))) := rfl
  rw [e]
  clean_types
  pointwise
  show Scalar.select (IntOp.cmpi CmpIPredicate.sle (IntOp.subi (BitVec.ofNat 32 t.val) 16384#32) (BitVec.ofNat 32 s.val))
    (Ideal.div (∑ x : Fin 128, refKeys V0 (ix4 b t h x) * rX V0 (ix3 b s (⟨h.val * 2048 + a.val * 128 + x.val, by omega⟩ : Fin 4096)))
      (Ideal.sqrt (Ideal.ofBits .f32 0x43000000#32))) (Ideal.ofBits .f32 0xFF800000#32) = _
  have ed : (∑ x : Fin 128, refKeys V0 (ix4 b t h x) * rX V0 (ix3 b s (⟨h.val * 2048 + a.val * 128 + x.val, by omega⟩ : Fin 4096)))
      = dotK V0 b h ⟨4 * a.val + s.val, by omega⟩ t := by
    refine Finset.sum_congr rfl fun x _ => (mul_comm _ _).trans (congrArg (· * refKeys V0 (ix4 b t h x)) ?_)
    unfold qA
    refine congrArg₂ (fun i j => rX V0 (ix3 b i j)) (Fin.ext ?_) (Fin.ext ?_)
    · show s.val = (4 * a.val + s.val) % 4
      omega
    · show h.val * 2048 + a.val * 128 + x.val = h.val * 2048 + (4 * a.val + s.val) / 4 * 128 + x.val
      omega
  rw [ed, causal, sqrt_128, Cert.KernelIdeal.Gen.ofBits_bot]
  by_cases hc : t.val ≤ 16384 + s.val
  · rw [if_pos hc, if_pos hc]; rfl
  · rw [if_neg hc, if_neg hc]; rfl

theorem row_set (x : FVec Ideal S8x2x16x4x16388 .f32) (a : Fin 16) :
    Host.reduce FloatOps.maximumf x (constant (F := Ideal) S_ .f32 0xFF800000#32) reducesTo_S8x2x16x4x16388_S8x2x16x4_d4 h_S_ (ix4 b h a s)
      = (Finset.univ.filter fun i => reducesTo_S8x2x16x4x16388_S8x2x16x4_d4.drop i = ix4 b h a s).fold FloatOps.maximumf (Ideal.ofBits .f32 0xFF800000#32) x :=
  Host.reduce_eq_fold _ x _ _ _ _

theorem row_fold (x : FVec Ideal S8x2x16x4x16388 .f32) (a : Fin 16) :
    (Finset.univ.filter fun i => reducesTo_S8x2x16x4x16388_S8x2x16x4_d4.drop i = ix4 b h a s).fold FloatOps.maximumf (Ideal.ofBits .f32 0xFF800000#32) x
      = (Finset.univ : Finset (Fin 16388)).fold (FloatOps.maximumf (F := Ideal) (φ := .f32)) (Ideal.ofBits .f32 0xFF800000#32) fun t => x (ix5 b h a s t) :=
  (reducesTo_S8x2x16x4x16388_S8x2x16x4_d4.fold_fiber_r5_a4 (ix4 b h a s) (FloatOps.maximumf (F := Ideal) (φ := .f32)) (Ideal.ofBits .f32 0xFF800000#32) x)

theorem row_max (x : FVec Ideal S8x2x16x4x16388 .f32) (a : Fin 16) :
    Host.reduce FloatOps.maximumf x (constant (F := Ideal) S_ .f32 0xFF800000#32) reducesTo_S8x2x16x4x16388_S8x2x16x4_d4 h_S_ (ix4 b h a s)
      = (Finset.univ : Finset (Fin 16388)).fold max (Ideal.ofBits .f32 0xFF800000#32) fun t => x (ix5 b h a s t) :=
  (row_set b h s x a).trans (row_fold b h s x a)

theorem exp_gen (x : FVec Ideal S8x2x16x4x16388 .f32) (y : FVec Ideal S8x2x16x4 .f32) (a : Fin 16) (t : Fin 16388) :
    (Host.exp (subf x (broadcastInDim S8x2x16x4x16388 ![0, 1, 2, 3, 4] bcast_S8x2x16x4x1_S8x2x16x4x16388_0_1_2_3_4 (maximumf (broadcastInDim S8x2x16x4x1 ![] bcast_S_S8x2x16x4x1 (constant S_ .f32 0xF149F2CA#32)) (broadcastInDim S8x2x16x4x1 ![0, 1, 2, 3] bcast_S8x2x16x4_S8x2x16x4x1_0_1_2_3 y)))) : FVec Ideal S8x2x16x4x16388 .f32) (ix5 b h a s t)
      = Ideal.exp (x (ix5 b h a s t) - max (Ideal.ofBits .f32 0xF149F2CA#32) (y (ix4 b h a s))) := by
  pointwise

/-- A row's scaled score and its weight. -/
abbrev sc (a : Fin 16) (t : Fin 16388) : EReal := res_main_v133 V0 (ix5 b h a s t)
abbrev wt (a : Fin 16) (t : Fin 16388) : EReal := res_main_v140 V0 (ix5 b h a s t)

/-- The row maximum, from the lower bound up. -/
def refM (a : Fin 16) : EReal := max mBot (Finset.univ.fold max ⊥ fun t : Fin 16388 => sc V0 b h s a t)

theorem v140_apply (a : Fin 16) (t : Fin 16388) : wt V0 b h s a t = Ideal.exp (sc V0 b h s a t - refM V0 b h s a) := by
  refine (exp_gen b h s (res_main_v133 V0) _ a t).trans ?_
  rw [row_max, Cert.KernelIdeal.Gen.ofBits_bot]
  rfl

/-- The attention output. -/
def refY : FVec Ideal S8x2x64x128 .bf16 :=
  shapeCast _ (truncf .bf16 (Host.divf (Host.dotGeneral dot_S8x2x16x4x16388_S8x16388x2x128_S8x2x16x4x128_4_1_23_3_01_02 none (truncf .bf16 (res_main_v140 V0) bitsLt_bf16_f32) (refVals V0)) (broadcastInDim S8x2x16x4x128 ![0, 1, 2, 3, 4] bcast_S8x2x16x4x1_S8x2x16x4x128_0_1_2_3_4 (broadcastInDim S8x2x16x4x1 ![0, 1, 2, 3] bcast_S8x2x16x4_S8x2x16x4x1_0_1_2_3 (Host.reduceAdd (res_main_v140 V0) (constant S_ .f32 0x00000000#32) reducesTo_S8x2x16x4x16388_S8x2x16x4_d4 h_S_)))) bitsLt_bf16_f32) shapeCasts_S8x2x16x4x128_S8x2x64x128

theorem y_apply (r : Fin 64) : refY V0 (ix4 b h r d)
    = Ideal.div (∑ t : Fin 16388, wt V0 b h (⟨r.val % 4, by omega⟩ : Fin 4) (⟨r.val / 4, by omega⟩ : Fin 16) t * refVals V0 (ix4 b t h d))
        (∑ t : Fin 16388, wt V0 b h (⟨r.val % 4, by omega⟩ : Fin 4) (⟨r.val / 4, by omega⟩ : Fin 16) t) := by
  unfold refY
  clean_types
  pointwise

theorem dotK_cached (r : Fin 64) (t : Fin 16256) : dotK V0 b h r ⟨t.val, by omega⟩ = SA (rX V0) (rKC V0) (rKS V0) (rKZ V0) b h r t :=
  Finset.sum_congr rfl fun d _ => congrArg (qA (rX V0) b h r d * ·) (keys_cached V0 b h d t)

theorem dotK_tail (r : Fin 64) (t : Fin 128) : dotK V0 b h r ⟨16256 + t.val, by omega⟩ = ∑ d, qA (rX V0) b h r d * rKT V0 (ix4 b t h d) :=
  Finset.sum_congr rfl fun d _ => congrArg (qA (rX V0) b h r d * ·) (keys_tail V0 b h d t)

theorem dotK_new (r : Fin 64) : dotK V0 b h r ⟨16384 + s.val, by omega⟩ = ∑ d, qA (rX V0) b h r d * newKA (rKN V0) b h s.val d :=
  Finset.sum_congr rfl fun d _ => congrArg (qA (rX V0) b h r d * ·) (keys_new V0 b h s d)

theorem row_eq (r : Fin 64) : (⟨4 * (r.val / 4) + r.val % 4, by omega⟩ : Fin 64) = r := Fin.ext (by show 4 * (r.val / 4) + r.val % 4 = r.val; omega)

/-- The reference's output is the attention of the stored and the new keys and values. -/
theorem y_eq (r : Fin 64) : refY V0 (ix4 b h r d)
    = yA (rX V0) (rKN V0) (rVN V0) (rKC V0) (rKS V0) (rKZ V0) (rVC V0) (rVS V0) (rVZ V0) (rKT V0) (rVT V0) b h r d := by
  refine (y_apply V0 b h d r).trans ?_
  simp only [v140_apply]
  unfold refM yA
  refine attn_ref _ _ _ _ r d (fun j hj => ?_)
    (fun t => sc V0 b h (⟨r.val % 4, by omega⟩ : Fin 4) (⟨r.val / 4, by omega⟩ : Fin 16) t) (fun t => refVals V0 (ix4 b t h d))
    (fun t => ?_) (fun j => ?_) (fun t => ?_) (fun j => ?_)
  · unfold EA
    rw [dif_neg (by omega), if_neg (by omega)]
  · refine (v133_apply V0 b h _ _ _).trans ((if_pos (by show t.val ≤ 16384 + r.val % 4; omega)).trans ?_)
    refine congrArg (Ideal.div · ((Real.sqrt 128 : ℝ) : EReal)) ?_
    exact (congrArg (fun i => dotK V0 b h i _) (row_eq r)).trans (dotK_cached V0 b h r t)
  · refine (v133_apply V0 b h _ _ _).trans ?_
    unfold EA
    by_cases hj : j.val < 128
    · rw [dif_pos hj]
      refine (if_pos (by show 16256 + j.val ≤ 16384 + r.val % 4; omega)).trans (congrArg (Ideal.div · ((Real.sqrt 128 : ℝ) : EReal)) ?_)
      exact (congrArg (fun i => dotK V0 b h i _) (row_eq r)).trans (dotK_tail V0 b h r ⟨j.val, hj⟩)
    · rw [dif_neg hj]
      by_cases hc : j.val - 128 ≤ r.val % 4
      · rw [if_pos hc]
        refine (if_pos (by show 16256 + j.val ≤ 16384 + r.val % 4; omega)).trans (congrArg (Ideal.div · ((Real.sqrt 128 : ℝ) : EReal)) ?_)
        refine (congrArg₂ (fun i k => dotK V0 b h i k) (row_eq r) (Fin.ext ?_)).trans (dotK_new V0 b h ⟨j.val - 128, by omega⟩ r)
        show 16256 + j.val = 16384 + (j.val - 128)
        omega
      · rw [if_neg hc, div_bot]
        exact if_neg (by show ¬ 16256 + j.val ≤ 16384 + r.val % 4; omega)
  · exact vals_cached V0 b h d t
  · unfold WA
    by_cases hj : j.val < 128
    · rw [dif_pos hj]
      exact vals_tail V0 b h d ⟨j.val, hj⟩
    · rw [dif_neg hj]
      refine (congrArg (fun k => refVals V0 (ix4 b k h d)) (Fin.ext ?_)).trans (vals_new V0 b h ⟨j.val - 128, by omega⟩ d)
      show 16256 + j.val = 16384 + (j.val - 128)
      omega

end Cert.ReferenceIdeal.Value

end
-- ==== Proof.Agree.lean ====
/- Kernel and reference, from equal arguments, leave equal arrays. -/
module

public import proofs.«01_k».proof.Proof.Arrays
public import proofs.«01_k».proof.Proof.RefVals

@[expose] public section

set_option maxRecDepth 16384

noncomputable section

namespace Cert.Agree

open Idealize.ShloMosaic Idealize.ShloMosaic.TcCoe Idealize.ShloMosaic.StableHlo Idealize.SL.Sem
open Cert.ReferenceIdeal.Value
open Cert.KernelIdeal.Gen (G13 G14 G15 G16 G17 G18 G19 aX aKN aVN aKC aKS aKZ aVC aVS aVZ aKT aVT datv datv_A arr_13 arr_14 arr_15 arr_16 arr_17 arr_18 arr_19)

theorem ix4_full {n p q l : ℕ} (y : (⟨4, ![n, p, q, l]⟩ : Shape).Idx) : ∃ (b : Fin n) (h : Fin p) (s : Fin q) (d : Fin l), y = ix4 b h s d := by
  refine ⟨⟨(y 0).val, (y 0).isLt⟩, ⟨(y 1).val, (y 1).isLt⟩, ⟨(y 2).val, (y 2).isLt⟩, ⟨(y 3).val, (y 3).isLt⟩, ?_⟩
  funext a
  fin_cases a <;> rfl

section Reference
open Cert.ReferenceIdeal Cert.ReferenceIdeal.Gen

/-- The reference's results, named. -/
def ref1 (V0 : Valuation τ sig (Elt Ideal)) : Vec Ideal S8x2x4x64 .i8 :=
  transpose S8x2x4x64 [0, 2, 1, 3] (res_main_v24 V0) transposes_S8x4x2x64_S8x2x4x64_0_2_1_3
def ref2 (V0 : Valuation τ sig (Elt Ideal)) : Vec Ideal S8x2x1x128 .f32 :=
  transpose S8x2x1x128 [0, 2, 1, 3] (res_main_v11 V0) transposes_S8x1x2x128_S8x2x1x128_0_2_1_3
def ref3 (V0 : Valuation τ sig (Elt Ideal)) : Vec Ideal S8x2x1x128 .f32 :=
  transpose S8x2x1x128 [0, 2, 1, 3] (res_main_v3 V0) transposes_S8x1x2x128_S8x2x1x128_0_2_1_3
def ref4 (V0 : Valuation τ sig (Elt Ideal)) : Vec Ideal S8x2x4x64 .i8 :=
  transpose S8x2x4x64 [0, 2, 1, 3] (res_main_v48 V0) transposes_S8x4x2x64_S8x2x4x64_0_2_1_3
def ref5 (V0 : Valuation τ sig (Elt Ideal)) : Vec Ideal S8x2x4x128 .f32 :=
  broadcastInDim S8x2x4x128 ![0, 1, 2, 3] bcast_S8x2x4x1_S8x2x4x128_0_1_2_3 (transpose S8x2x4x1 [0, 2, 1, 3] (res_main_v35 V0) transposes_S8x4x2x1_S8x2x4x1_0_2_1_3)
def ref6 (V0 : Valuation τ sig (Elt Ideal)) : Vec Ideal S8x2x4x128 .f32 :=
  broadcastInDim S8x2x4x128 ![0, 1, 2, 3] bcast_S8x2x4x1_S8x2x4x128_0_1_2_3 (transpose S8x2x4x1 [0, 2, 1, 3] (res_main_v27 V0) transposes_S8x4x2x1_S8x2x4x1_0_2_1_3)

variable (V0 : Valuation τ sig (Elt Ideal)) (b : Fin 8) (h : Fin 2)

theorem ref1_apply (s : Fin 4) (d : Fin 64) : ref1 V0 (ix4 b h s d) = res_main_v24 V0 (ix4 b s h d) := by
  unfold ref1
  clean_types
  pointwise

theorem ref2_apply (s : Fin 1) (d : Fin 128) : ref2 V0 (ix4 b h s d) = res_main_v11 V0 (ix4 b 0 h d) := by
  obtain rfl : s = 0 := Subsingleton.elim _ _
  unfold ref2
  clean_types
  pointwise

theorem ref3_apply (s : Fin 1) (d : Fin 128) : ref3 V0 (ix4 b h s d) = res_main_v3 V0 (ix4 b 0 h d) := by
  obtain rfl : s = 0 := Subsingleton.elim _ _
  unfold ref3
  clean_types
  pointwise

theorem ref4_apply (s : Fin 4) (d : Fin 64) : ref4 V0 (ix4 b h s d) = res_main_v48 V0 (ix4 b s h d) := by
  unfold ref4
  clean_types
  pointwise

theorem ref5_apply (s : Fin 4) (d : Fin 128) : ref5 V0 (ix4 b h s d) = res_main_v35 V0 (ix4 b s h 0) := by
  unfold ref5
  clean_types
  pointwise

theorem ref6_apply (s : Fin 4) (d : Fin 128) : ref6 V0 (ix4 b h s d) = res_main_v27 V0 (ix4 b s h 0) := by
  unfold ref6
  clean_types
  pointwise

end Reference

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

theorem same0 (eX : rX V0 = aX m c) (eKN : rKN V0 = aKN m c) (eVN : rVN V0 = aVN m c) (eKC : rKC V0 = aKC m c) (eKS : rKS V0 = aKS m c) (eKZ : rKZ V0 = aKZ m c) (eVC : rVC V0 = aVC m c) (eVS : rVS V0 = aVS m c) (eVZ : rVZ V0 = aVZ m c) (eKT : rKT V0 = aKT m c) (eVT : rVT V0 = aVT m c) : refY V0 = G13 m c := by
  funext ix
  obtain ⟨b, h, s, d, rfl⟩ := ix4_full (n := 8) (p := 2) (q := 64) (l := 128) ix
  refine ((y_eq V0 b h d s)).trans ?_
  rw [eX, eKN, eVN, eKC, eKS, eKZ, eVC, eVS, eVZ, eKT, eVT]
  rfl

theorem same1 (eKN : rKN V0 = aKN m c) : ref1 V0 = G14 m c := by
  funext ix
  obtain ⟨b, h, s, d, rfl⟩ := ix4_full (n := 8) (p := 2) (q := 4) (l := 64) ix
  refine ((ref1_apply V0 b h s d).trans (v24_apply V0 b h s d)).trans ?_
  rw [eKN]
  rfl

theorem same2 (eKN : rKN V0 = aKN m c) : ref2 V0 = G15 m c := by
  funext ix
  obtain ⟨b, h, s, d, rfl⟩ := ix4_full (n := 8) (p := 2) (q := 1) (l := 128) ix
  refine ((ref2_apply V0 b h s d).trans (v11_apply V0 b h d)).trans ?_
  rw [eKN]
  rfl

theorem same3 (eKN : rKN V0 = aKN m c) : ref3 V0 = G16 m c := by
  funext ix
  obtain ⟨b, h, s, d, rfl⟩ := ix4_full (n := 8) (p := 2) (q := 1) (l := 128) ix
  refine ((ref3_apply V0 b h s d).trans (v3_apply V0 b h d)).trans ?_
  rw [eKN]
  rfl

theorem same4 (eVN : rVN V0 = aVN m c) : ref4 V0 = G17 m c := by
  funext ix
  obtain ⟨b, h, s, d, rfl⟩ := ix4_full (n := 8) (p := 2) (q := 4) (l := 64) ix
  refine ((ref4_apply V0 b h s d).trans (v48_apply V0 b h s d)).trans ?_
  rw [eVN]
  rfl

theorem same5 (eVN : rVN V0 = aVN m c) : ref5 V0 = G18 m c := by
  funext ix
  obtain ⟨b, h, s, d, rfl⟩ := ix4_full (n := 8) (p := 2) (q := 4) (l := 128) ix
  refine ((ref5_apply V0 b h s d).trans (v35_apply V0 b h s)).trans ?_
  rw [eVN]
  rfl

theorem same6 (eVN : rVN V0 = aVN m c) : ref6 V0 = G19 m c := by
  funext ix
  obtain ⟨b, h, s, d, rfl⟩ := ix4_full (n := 8) (p := 2) (q := 4) (l := 128) ix
  refine ((ref6_apply V0 b h s d).trans (v27_apply V0 b h s)).trans ?_
  rw [eVN]
  rfl

/-! ## The two runs -/

section Kernel
open Cert.KernelIdeal Cert.KernelIdeal.Gen

/-- The arguments end unchanged. -/
theorem kernel_args (ρ : Dev nD → PrngReg) : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (datv m) (datv_A m) ((θ_run _ _ _).mono (fun _ h => h.1) (run_mainV m ρ))

/-- The arguments end unchanged and every counter at zero. -/
theorem kernel_frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  θ_run_and (kernel_args m ρ) ((θ_run _ _ _).mono (fun _ h => h.2) (run_mainV m ρ))

set_option maxHeartbeats 4000000 in
/-- Every result array ends at its value. -/
theorem kernel_vals (ρ : Dev nD → PrngReg) : θ_run (defs (F := Ideal)) (onTc (τ := τ) (main (F := Ideal))) ⟨m, fun _ => 0, ρ⟩ (fun r => ∀ c : Dev nD,
      r.2.mem ((c.tc : Thread nD τ).loc main_v26_0) = G13 m c
      ∧ r.2.mem ((c.tc : Thread nD τ).loc main_v26_1) = G14 m c
      ∧ r.2.mem ((c.tc : Thread nD τ).loc main_v26_2) = G15 m c
      ∧ r.2.mem ((c.tc : Thread nD τ).loc main_v26_3) = G16 m c
      ∧ r.2.mem ((c.tc : Thread nD τ).loc main_v26_4) = G17 m c
      ∧ r.2.mem ((c.tc : Thread nD τ).loc main_v26_5) = G18 m c
      ∧ r.2.mem ((c.tc : Thread nD τ).loc main_v26_6) = G19 m c) :=
  (θ_run _ _ _).mono (fun r h c => ⟨((h.1 c).1 13).trans (arr_13 m c),
    ((h.1 c).1 14).trans (arr_14 m c),
    ((h.1 c).1 15).trans (arr_15 m c),
    ((h.1 c).1 16).trans (arr_16 m c),
    ((h.1 c).1 17).trans (arr_17 m c),
    ((h.1 c).1 18).trans (arr_18 m c),
    ((h.1 c).1 19).trans (arr_19 m c)⟩) (run_mainV m ρ)

/-- Both together. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v26_0) = G13 m c
      ∧ r.2.mem ((c.tc : Thread nD τ).loc main_v26_1) = G14 m c
      ∧ r.2.mem ((c.tc : Thread nD τ).loc main_v26_2) = G15 m c
      ∧ r.2.mem ((c.tc : Thread nD τ).loc main_v26_3) = G16 m c
      ∧ r.2.mem ((c.tc : Thread nD τ).loc main_v26_4) = G17 m c
      ∧ r.2.mem ((c.tc : Thread nD τ).loc main_v26_5) = G18 m c
      ∧ r.2.mem ((c.tc : Thread nD τ).loc main_v26_6) = G19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => match h.1 c with
      | ⟨h0, h1, h2, h3, h4, h5, h6⟩ => ⟨h0, h1, h2, h3, h4, h5, h6, h.2 c⟩)
    (θ_run_and (kernel_vals m ρ) (kernel_args m ρ))

end Kernel

end Cert.Agree

end
-- ==== Proof.lean ====
/- The five claims: three frames, the naming of one constant, and the equality of the results over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.ShloMosaic.StableHlo Idealize.SL.Sem Cert.Agree Cert.KernelIdeal.Gen

/-- The reference's frame: its run, which leaves the arguments in place, and no counters to move. -/
theorem frame_ref : Cert.quiescent_ReferenceIdeal := fun m ρ _ =>
  (θ_run _ _ _).mono (fun r h => ⟨fun c => (h c).2.2.2.2.2.2.2, sem_eq_zero_of_no_sems rfl r.2⟩) (Cert.ReferenceIdeal.Value.run m ρ)

/-- From equal arguments both programs end with the same seven arrays. -/
theorem agree : Cert.algebraic_KernelIdeal_ReferenceIdeal := fun m g m' g' _ e =>
  ⟨G13 m, G14 m, G15 m, G16 m, G17 m, G18 m, G19 m, kernel_run m g,
    (θ_run _ _ _).mono (fun r h c => by
      obtain ⟨e0, e1, e2, e3, e4, e5, e6, e7, e8, e9, e10⟩ := e c
      obtain ⟨h0, h1, h2, h3, h4, h5, h6, ha⟩ := h c
      exact ⟨h0.trans (same0 m c (launchContents m' c) e0 e1 e2 e3 e4 e5 e6 e7 e8 e9 e10),
        h1.trans (same1 m c (launchContents m' c) e1), h2.trans (same2 m c (launchContents m' c) e1),
        h3.trans (same3 m c (launchContents m' c) e1), h4.trans (same4 m c (launchContents m' c) e2),
        h5.trans (same5 m c (launchContents m' c) e2), h6.trans (same6 m c (launchContents m' c) e2), ha⟩)
      (Cert.ReferenceIdeal.Value.run m' g')⟩

theorem claim : Cert.Claim :=
  ⟨Cert.Kernel.Gen.facts, Cert.KernelIdeal.Gen.facts, Cert.ReferenceIdeal.Gen.facts,
    fun m ρ _ => Cert.Kernel.Gen.frame m ρ,
    fun m ρ _ => kernel_frame m ρ,
    frame_ref,
    IdealRules.named_const.statement Cert.KernelIdeal.κ "exp2_scale" .f32 0x3E0293EE#32 _ rfl,
    agree⟩

end Cert.Proof

end
